-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v0_0) = v1 c
          ∧ r.2.mem ((c.tc : Thread Cert.ReferenceIdeal.nD Cert.ReferenceIdeal.τ).loc Cert.ReferenceIdeal.main_v0_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x4096x9216 : Shape := ⟨3, ![8, 4096, 9216]⟩
abbrev S7168x9216 : Shape := ⟨2, ![7168, 9216]⟩
abbrev S7168x72 : Shape := ⟨2, ![7168, 72]⟩
abbrev S8x4096x72x128 : Shape := ⟨4, ![8, 4096, 72, 128]⟩
abbrev S_ : Shape := ⟨0, ![]⟩
abbrev S8x4096x72 : Shape := ⟨3, ![8, 4096, 72]⟩

class Facts : Prop where
  bitsLt_bf16_f32 : FTy.bits .bf16 < FTy.bits .f32
  shapeCasts_S8x4096x9216_S8x4096x72x128 : S8x4096x9216.ShapeCasts S8x4096x72x128
  reducesTo_S8x4096x72x128_S8x4096x72_d3 : S8x4096x72x128.ReducesTo [3] S8x4096x72
  h_S_ : 0 < S_.numel
  bcast_S_S8x4096x72 : S_.BroadcastsInDim S8x4096x72 (![] : Fin 0 → Fin S8x4096x72.rank)

variable [Facts]

def fn {F : FTy → Type} [FloatOps F] (main_arg0 : FVec F S8x4096x9216 .bf16) (main_arg1 : FVec F S7168x9216 .fp8e4m3) (main_arg2 : FVec F S7168x72 .f32) : IVec S8x4096x72 1 :=
  let main_v0 : FVec F S8x4096x9216 .f32 := (extf .f32 · bitsLt_bf16_f32) main_arg0
  let main_v1 : FVec F S8x4096x72x128 .f32 := shapeCast S8x4096x72x128 main_v0 shapeCasts_S8x4096x9216_S8x4096x72x128
  let main_v2 : FVec F S8x4096x72x128 .f32 := Host.absf main_v1
  let main_cst : FVec F S_ .f32 := constant S_ .f32 0xFF800000#32
  let main_v3 : FVec F S8x4096x72 .f32 := (fun x v => Host.reduce FloatOps.maximumf x v reducesTo_S8x4096x72x128_S8x4096x72_d3 h_S_) main_v2 main_cst
  let main_cst_0 : FVec F S_ .f32 := constant S_ .f32 0x3B124925#32
  let main_v4 : FVec F S8x4096x72 .f32 := broadcastInDim S8x4096x72 ![] bcast_S_S8x4096x72 main_cst_0
  let main_v5 : FVec F S8x4096x72 .f32 := mulf main_v3 main_v4
  let main_cst_1 : FVec F S_ .f32 := constant S_ .f32 0x00000000#32
  let main_v6 : FVec F S8x4096x72 .f32 := broadcastInDim S8x4096x72 ![] bcast_S_S8x4096x72 main_cst_1
  let main_v7 : IVec S8x4096x72 1 := cmpf .oeq main_v3 main_v6
  let main_cst_2 : FVec F S_ .f32 := constant S_ .f32 0x00800000#32
  let main_v8 : FVec F S8x4096x72 .f32 := broadcastInDim S8x4096x72 ![] bcast_S_S8x4096x72 main_cst_2
  let main_v9 : IVec S8x4096x72 1 := cmpf .oge main_v5 main_v8
  let main_cst_3 : FVec F S_ .f32 := constant S_ .f32 0x7E800000#32
  let main_v10 : FVec F S8x4096x72 .f32 := broadcastInDim S8x4096x72 ![] bcast_S_S8x4096x72 main_cst_3
  let main_v11 : IVec S8x4096x72 1 := cmpf .olt main_v5 main_v10
  let main_v12 : IVec S8x4096x72 1 := andi main_v9 main_v11
  let main_v13 : IVec S8x4096x72 1 := ori main_v7 main_v12
  main_v13
-- ==== Kernel.lean ====
abbrev S8x4096x9216 : Shape := ⟨3, ![8, 4096, 9216]⟩
abbrev S7168x9216 : Shape := ⟨2, ![7168, 9216]⟩
abbrev S7168x72 : Shape := ⟨2, ![7168, 72]⟩
abbrev S32768x9216 : Shape := ⟨2, ![32768, 9216]⟩
abbrev S32768x72 : Shape := ⟨2, ![32768, 72]⟩
abbrev S256x9216 : Shape := ⟨2, ![256, 9216]⟩
abbrev S256x72 : Shape := ⟨2, ![256, 72]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S32768x7168 : Shape := ⟨2, ![32768, 7168]⟩
abbrev S1024x9216 : Shape := ⟨2, ![1024, 9216]⟩
abbrev S512x9216 : Shape := ⟨2, ![512, 9216]⟩
abbrev S1024x512 : Shape := ⟨2, ![1024, 512]⟩
abbrev S8x4096x7168 : Shape := ⟨3, ![8, 4096, 7168]⟩
abbrev S8x4096x72 : Shape := ⟨3, ![8, 4096, 72]⟩

abbrev nBuf : Space → Nat
  | .hbm => 12
  | .vmem => 20
  | .smem => 0
  | _ => 0

abbrev bufTy : (tb : Table) → Fin (tcTables nBuf tb) → BufTy
  | .hbm, ⟨0, _⟩ => ⟨S8x4096x9216, .bf16⟩
  | .hbm, ⟨1, _⟩ => ⟨S7168x9216, .fp8e4m3⟩
  | .hbm, ⟨2, _⟩ => ⟨S7168x72, .f32⟩
  | .hbm, ⟨3, _⟩ => ⟨S32768x9216, .bf16⟩
  | .hbm, ⟨4, _⟩ => ⟨S32768x9216, .fp8e4m3⟩
  | .hbm, ⟨5, _⟩ => ⟨S32768x72, .f32⟩
  | .hbm, ⟨6, _⟩ => ⟨S32768x9216, .bf16⟩
  | .hbm, ⟨7, _⟩ => ⟨S7168x9216, .bf16⟩
  | .hbm, ⟨8, _⟩ => ⟨S32768x7168, .bf16⟩
  | .hbm, ⟨9, _⟩ => ⟨S8x4096x7168, .bf16⟩
  | .hbm, ⟨10, _⟩ => ⟨S8x4096x9216, .fp8e4m3⟩
  | .hbm, ⟨11, _⟩ => ⟨S8x4096x72, .f32⟩
  | .local _ .vmem, ⟨0, _⟩ => ⟨S256x9216, .bf16⟩
  | .local _ .vmem, ⟨1, _⟩ => ⟨S256x9216, .bf16⟩
  | .local _ .vmem, ⟨2, _⟩ => ⟨S256x9216, .fp8e4m3⟩
  | .local _ .vmem, ⟨3, _⟩ => ⟨S256x9216, .fp8e4m3⟩
  | .local _ .vmem, ⟨4, _⟩ => ⟨S256x72, .f32⟩
  | .local _ .vmem, ⟨5, _⟩ => ⟨S256x72, .f32⟩
  | .local _ .vmem, ⟨6, _⟩ => ⟨S256x9216, .bf16⟩
  | .local _ .vmem, ⟨7, _⟩ => ⟨S256x9216, .bf16⟩
  | .local _ .vmem, ⟨8, _⟩ => ⟨S256x9216, .fp8e4m3⟩
  | .local _ .vmem, ⟨9, _⟩ => ⟨S256x9216, .fp8e4m3⟩
  | .local _ .vmem, ⟨10, _⟩ => ⟨S256x72, .f32⟩
  | .local _ .vmem, ⟨11, _⟩ => ⟨S256x72, .f32⟩
  | .local _ .vmem, ⟨12, _⟩ => ⟨S256x9216, .bf16⟩
  | .local _ .vmem, ⟨13, _⟩ => ⟨S256x9216, .bf16⟩
  | .local _ .vmem, ⟨14, _⟩ => ⟨S1024x9216, .bf16⟩
  | .local _ .vmem, ⟨15, _⟩ => ⟨S1024x9216, .bf16⟩
  | .local _ .vmem, ⟨16, _⟩ => ⟨S512x9216, .bf16⟩
  | .local _ .vmem, ⟨17, _⟩ => ⟨S512x9216, .bf16⟩
  | .local _ .vmem, ⟨18, _⟩ => ⟨S1024x512, .bf16⟩
  | .local _ .vmem, ⟨19, _⟩ => ⟨S1024x512, .bf16⟩
  | _, _ => ⟨S8x4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x9216 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x72 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x9216 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![28], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x9216 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x72 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x9216 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![32, 14], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x9216 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x9216 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S8x4096x9216 : Shape := ⟨3, ![8, 4096, 9216]⟩
abbrev S7168x9216 : Shape := ⟨2, ![7168, 9216]⟩
abbrev S7168x72 : Shape := ⟨2, ![7168, 72]⟩
abbrev S8x4096x72 : Shape := ⟨3, ![8, 4096, 72]⟩
abbrev S8x4096x72x128 : Shape := ⟨4, ![8, 4096, 72, 128]⟩
abbrev S8x4096x72x1 : Shape := ⟨4, ![8, 4096, 72, 1]⟩
abbrev S7168x72x128 : Shape := ⟨3, ![7168, 72, 128]⟩
abbrev S7168x72x1 : Shape := ⟨3, ![7168, 72, 1]⟩
abbrev S8x4096x7168 : Shape := ⟨3, ![8, 4096, 7168]⟩

abbrev nBuf : Space → Nat
  | .hbm => 9
  | .vmem => 7
  | .smem => 0
  | _ => 0

abbrev bufTy : (tb : Table) → Fin (tcTables nBuf tb) → BufTy
  | .hbm, ⟨0, _⟩ => ⟨S8x4096x9216, .bf16⟩
  | .hbm, ⟨1, _⟩ => ⟨S7168x9216, .fp8e4m3⟩
  | .hbm, ⟨2, _⟩ => ⟨S7168x72, .f32⟩
  | .hbm, ⟨3, _⟩ => ⟨S8x4096x9216, .fp8e4m3⟩
  | .hbm, ⟨4, _⟩ => ⟨S8x4096x72, .f32⟩
  | .hbm, ⟨5, _⟩ => ⟨S8x4096x9216, .bf16⟩
  | .hbm, ⟨6, _⟩ => ⟨S7168x9216, .bf16⟩
  | .hbm, ⟨7, _⟩ => ⟨S8x4096x7168, .f32⟩
  | .hbm, ⟨8, _⟩ => ⟨S8x4096x7168, .bf16⟩
  | .local _ .vmem, ⟨0, _⟩ => ⟨S8x4096x9216, .bf16⟩
  | .local _ .vmem, ⟨1, _⟩ => ⟨S7168x9216, .fp8e4m3⟩
  | .local _ .vmem, ⟨2, _⟩ => ⟨S7168x72, .f32⟩
  | .local _ .vmem, ⟨3, _⟩ => ⟨S8x4096x9216, .fp8e4m3⟩
  | .local _ .vmem, ⟨4, _⟩ => ⟨S8x4096x72, .f32⟩
  | .local _ .vmem, ⟨5, _⟩ => ⟨S8x4096x9216, .bf16⟩
  | .local _ .vmem, ⟨6, _⟩ => ⟨S7168x9216, .bf16⟩
  | _, _ => ⟨S8x4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S8x4096x9216 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x9216 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x72 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x9216 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x9216 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x9216 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.QuantiseBlock.lean ====
/-
  The first pallas_call's body, which writes its 72 groups one after the other, as ONE function of the group:
  `codes`, `dequantised` and `scale` of a block of 128 columns, and the three output blocks in terms of them.
-/
module

public import proofs.«01_k».proof.Proof.Gen.KernelIdeal.Frame

@[expose] public section

set_option synthInstance.maxSize 4096

noncomputable section

namespace Cert.KernelIdeal.Quantise

open Idealize.ShloMosaic Idealize.SL.Sem
open Cert.KernelIdeal Cert.KernelIdeal.Gen

variable {F : FTy → Type} [FloatOps F]

/-- The largest magnitude of each row of the group over 448. -/
def amax (v : Vec F S256x128 .bf16) : FVec F S256x1 .f32 :=
  mulf (shapeCast S256x1 (multiReduction .maximumf [1] S256 (absf (extf .f32 (shapeCast S256x128 v shapeCasts_S256x128_S256x128 : FVec F S256x128 .bf16) bitsLt_bf16_f32)) 0xFF800000#32
      reduces_S256x128_S256 (.inl rfl) rfl) shapeCasts_S256_S256x1)
    (broadcast S256x1 (Scalar.ofBits .f32 0x3B124925#32))

/-- The 256 exponent fields, one to a lane. -/
def fields : IVec S256x256 32 :=
  shli (iota .tc S256x256 32 [1] iota_S256x256_d1_w32) (broadcast S256x256 23#32)

/-- The largest exponent field whose value does not exceed the magnitude. -/
def field (x : FVec F S256x1 .f32) : IVec S256x1 32 :=
  shapeCast S256x1 (multiReductionI .maxsi [1] S256
    (select (cmpf .olt (broadcastTo S256x256 (absf x) broadcasts_S256x1_S256x256) (bitcastToFloat .f32 fields)) (broadcast S256x256 0#32) fields)
    2147483648#32 reduces_S256x256_S256 rfl) shapeCasts_S256_S256x1

/-- The scale: the next power of two, 1 where the field is 0. -/
def scaleOf (b : IVec S256x1 32) : FVec F S256x1 .f32 :=
  bitcastToFloat .f32 (select (cmpi .eq b (broadcast S256x1 0#32)) (broadcast S256x1 1065353216#32) (addi b (broadcast S256x1 8388608#32)))

/-- Its inverse. -/
def invOf (b : IVec S256x1 32) : FVec F S256x1 .f32 :=
  bitcastToFloat .f32 (select (cmpi .eq b (broadcast S256x1 0#32)) (broadcast S256x1 1065353216#32) (subi (broadcast S256x1 2122317824#32) b))

/-- The scale of a group. -/
def scale (v : Vec F S256x128 .bf16) : FVec F S256x1 .f32 := scaleOf (field (amax v))

/-- The codes of a group. -/
def codes (v : Vec F S256x128 .bf16) : FVec F S256x128 .fp8e4m3 :=
  truncf .fp8e4m3
    (minimumf (broadcast S256x128 (Scalar.truncf .bf16 bitsLt_bf16_f32 (Scalar.ofBits .f32 0x43E00000#32)))
      (maximumf (broadcast S256x128 (Scalar.truncf .bf16 bitsLt_bf16_f32 (Scalar.ofBits .f32 0xC3E00000#32)))
        (mulf (shapeCast S256x128 v shapeCasts_S256x128_S256x128 : FVec F S256x128 .bf16)
          (broadcastTo S256x128 (truncf .bf16 (invOf (F := F) (field (amax v))) bitsLt_bf16_f32) broadcasts_S256x1_S256x128))))
    bitsLt_fp8e4m3_bf16

/-- The group back from its codes. -/
def dequantised (v : Vec F S256x128 .bf16) : FVec F S256x128 .bf16 :=
  mulf (extf .bf16 (codes v) bitsLt_fp8e4m3_bf16)
    (broadcastTo S256x128 (truncf .bf16 (scale v) bitsLt_bf16_f32) broadcasts_S256x1_S256x128)

theorem cols_inb (g : Fin 72) : ∀ a, (![0, 128 * g.val] : Fin 2 → Nat) a + S256x128.size a ≤ S256x9216.size a := by
  have h := g.isLt
  exact Fin.forall_fin_two.mpr ⟨Nat.le_refl 256, show 128 * g.val + 128 ≤ 9216 by omega⟩

/-- The columns of group `g`. -/
abbrev cols (g : Fin 72) : Rect S256x9216 := Rect.unit (s := S256x9216) ![0, 128 * g.val] S256x128.size (cols_inb g)

set_option maxRecDepth 100000 in
/-- The codes' block is written group by group. -/
theorem out0_1_eq (x : Vec F S256x9216 .bf16) :
    Gen.out0_1 x = View.canon (List.ofFn fun k : Fin 72 => (⟨cols k.rev, codes (View.ld x (cols k.rev))⟩ : View.Piece (Elt F) S256x9216 .fp8e4m3)) := by
  rfl

set_option maxRecDepth 100000 in
/-- So is the block of values back from the codes. -/
theorem out0_3_eq (x : Vec F S256x9216 .bf16) :
    Gen.out0_3 x = View.canon (List.ofFn fun k : Fin 72 => (⟨cols k.rev, dequantised (View.ld x (cols k.rev))⟩ : View.Piece (Elt F) S256x9216 .bf16)) := by
  rfl

/-- The scales' block with group `g`'s column put in. -/
def putScale (x : Vec F S256x9216 .bf16) (s : FVec F S256x72 .f32) (g : Fin 72) : FVec F S256x72 .f32 :=
  select (cmpi .eq (iota .tc S256x72 32 [1] iota_S256x72_d1_w32) (broadcast S256x72 (BitVec.ofNat 32 g.val)))
    (broadcastTo S256x72 (shapeCast S256x1 (scale (View.ld x (cols g))) shapeCasts_S256x1_S256x1) broadcasts_S256x1_S256x72) s

set_option maxRecDepth 100000 in
/-- The scales' block is put together column by column and written once. -/
theorem out0_2_eq (x : Vec F S256x9216 .bf16) :
    Gen.out0_2 x = View.canon [(⟨Gen.r0_72, Fin.foldl 72 (putScale x) (broadcast S256x72 (Scalar.ofBits .f32 0x00000000#32))⟩ : View.Piece (Elt F) S256x72 .f32)] := by
  rfl

end Cert.KernelIdeal.Quantise
-- ==== Proof.Scale.lean ====
/-
  The two ways of taking a group's scale, on one number at a time: by the exponent field of the ratio, and by the
  logarithm. `scale_eq` and `inverse_eq` are their agreement on the ratios the precondition admits.
-/
module

public import Idealize.ShloMosaic.Lib.Pointwise
public import Mathlib.Analysis.SpecialFunctions.Pow.Real

@[expose] public section

noncomputable section

namespace Cert.Scale

open Idealize.ShloMosaic

/-- Column `l` of group `g`. -/
def lane (g : Fin 72) (l : Fin 128) : Fin 9216 := ⟨g.val * 128 + l.val, by omega⟩

/-- The group of column `c`. -/
def groupOf (c : Fin 9216) : Fin 72 := ⟨c.val / 128, by omega⟩

/-- The largest magnitude of group `g` of a row. -/
def peak (row : Fin 9216 → EReal) (g : Fin 72) : EReal :=
  (Finset.univ : Finset (Fin 128)).fold max (Ideal.ofBits .f32 0xFF800000#32)
    (fun l => FloatOps.absf (F := Ideal) (φ := .f32) (row (lane g l)))

/-- A group's largest magnitude times the word for 1/448. -/
def ratio (m : EReal) : EReal := m * Ideal.ofBits .f32 0x3B124925#32

/-- The numbers the precondition admits as a group's largest magnitude. -/
def Admits (m : EReal) : Prop :=
  m = 0 ∨ (Ideal.ofBits .f32 0x00800000#32 ≤ ratio m ∧ ratio m < Ideal.ofBits .f32 0x7E800000#32)

/-- The exponent by the logarithm. -/
def expo (m : EReal) : EReal :=
  if m = 0 then 0 else Ideal.liftRound Int.floor (Ideal.div (Ideal.log (ratio m)) ((Real.log 2 : ℝ) : EReal)) + 1

/-- The largest exponent field whose value does not exceed the magnitude of `r`. -/
def field (r : EReal) : BitVec 32 :=
  (Finset.univ : Finset (Fin 256)).fold IntOp.maxsi 2147483648#32 (fun l =>
    if FloatOps.absf (F := Ideal) (φ := .f32) r < Ideal.ofBits .f32 (IntOp.shli ArithUnit.vector (BitVec.ofNat 32 l.val) 23#32)
      then 0#32 else IntOp.shli ArithUnit.vector (BitVec.ofNat 32 l.val) 23#32)

/-- The scale a field names. -/
def scaleOf (b : BitVec 32) : EReal :=
  Ideal.ofBits .f32 (Scalar.select (IntOp.cmpi .eq b 0#32) 1065353216#32 (IntOp.addi b 8388608#32))

/-- The inverse of the scale a field names. -/
def invOf (b : BitVec 32) : EReal :=
  Ideal.ofBits .f32 (Scalar.select (IntOp.cmpi .eq b 0#32) 1065353216#32 (IntOp.subi 2122317824#32 b))

/-- The scale of group `g` of a row, by the exponent field. -/
def scaleAt (row : Fin 9216 → EReal) (g : Fin 72) : EReal := scaleOf (field (ratio (peak row g)))

/-- The code of column `c` of a row, by the exponent field. -/
def codeAt (row : Fin 9216 → EReal) (c : Fin 9216) : EReal :=
  min (Ideal.ofBits .f32 0x43E00000#32) (max (Ideal.ofBits .f32 0xC3E00000#32)
    (row c * invOf (field (ratio (peak row (groupOf c))))))

/-- The value back from the code. -/
def backAt (row : Fin 9216 → EReal) (c : Fin 9216) : EReal := codeAt row c * scaleAt row (groupOf c)

theorem groupOf_lane (g : Fin 72) (l : Fin 128) : groupOf (lane g l) = g :=
  Fin.ext (show (g.val * 128 + l.val) / 128 = g.val by omega)

/-- The word whose exponent field is `L` and whose other bits are zero. -/
def word (L : Nat) : BitVec 32 := BitVec.ofNat 32 (L * 8388608)

theorem shli_word : ∀ l : Fin 256, IntOp.shli ArithUnit.vector (BitVec.ofNat 32 l.val) 23#32 = word l.val := by
  decide +kernel

theorem word_parts : ∀ l : Fin 256,
    ((word l.val).extractLsb' (8 + 23) 1 == 1#1) = false ∧ ((word l.val).extractLsb' 23 8).toNat = l.val
      ∧ ((word l.val).extractLsb' 0 23).toNat = 0 := by
  decide +kernel

/-- A word of a normal exponent denotes that power of two. -/
theorem ofBits_word (L : Nat) (h1 : 1 ≤ L) (h2 : L ≤ 254) :
    Ideal.ofBits .f32 (word L) = (((2 : ℝ) ^ ((L : ℤ) - 127) : ℝ) : EReal) := by
  obtain ⟨hn, he, hf⟩ := word_parts ⟨L, by omega⟩
  simp only at hn he hf
  show Ideal.ieee 8 23 (word L) = _
  unfold Ideal.ieee
  simp only [hn, he, hf]
  rw [if_neg (by omega), if_neg (by omega)]
  congr 1
  have : (8388608 : ℝ) = (2 : ℝ) ^ (23 : ℤ) := by norm_num
  push_cast
  simp only [Bool.false_eq_true, if_false, one_mul, add_zero]
  rw [this, ← zpow_add₀ (by norm_num)]
  congr 1
  norm_num

theorem ofBits_word_zero : Ideal.ofBits .f32 (word 0) = 0 := Ideal.ofBits_zero_f32

theorem ofBits_word_top : Ideal.ofBits .f32 (word 255) = ⊤ := by
  obtain ⟨hn, he, hf⟩ := word_parts ⟨255, by omega⟩
  simp only at hn he hf
  show Ideal.ieee 8 23 (word 255) = _
  unfold Ideal.ieee
  simp only [hn, he, hf]
  simp

/-- Every exponent field above `L` taken out, the largest left is `L`. -/
theorem fold_word : ∀ L : Fin 256,
    (Finset.univ : Finset (Fin 256)).fold IntOp.maxsi 2147483648#32
      (fun l => if L < l then 0#32 else word l.val) = word L.val := by
  decide +kernel

/-- The field of a ratio in the binade of exponent `k`. -/
theorem field_binade (y : ℝ) (L : Nat) (h1 : 1 ≤ L) (h2 : L ≤ 253) (hl : (2 : ℝ) ^ ((L : ℤ) - 127) ≤ y)
    (hu : y < (2 : ℝ) ^ ((L : ℤ) - 126)) : field (y : EReal) = word L := by
  have hy : 0 ≤ y := le_trans (by positivity) hl
  have habs : FloatOps.absf (F := Ideal) (φ := .f32) (y : EReal) = (y : EReal) := by
    show max (y : EReal) (-(y : EReal)) = y
    exact max_eq_left (by rw [← EReal.coe_neg]; exact EReal.coe_le_coe_iff.mpr (by linarith))
  unfold field
  rw [habs, ← fold_word ⟨L, by omega⟩]
  congr 1
  funext l
  rw [shli_word l]
  refine if_congr ?_ rfl rfl
  rw [Fin.lt_def]
  show _ ↔ L < l.val
  have hlt := l.isLt
  rcases Nat.eq_zero_or_pos l.val with h0 | hpos
  · rw [h0, ofBits_word_zero]
    exact ⟨fun h => absurd (EReal.coe_lt_coe_iff.mp (by simpa using h) : y < 0) (by linarith), fun h => absurd h (by omega)⟩
  · rcases Nat.lt_or_ge l.val 255 with h254 | h255
    · rw [ofBits_word l.val hpos (by omega), EReal.coe_lt_coe_iff]
      constructor
      · intro h
        by_contra hc
        have : (2 : ℝ) ^ ((l.val : ℤ) - 127) ≤ (2 : ℝ) ^ ((L : ℤ) - 127) :=
          zpow_le_zpow_right₀ (by norm_num) (by omega)
        linarith
      · intro h
        have : (2 : ℝ) ^ ((L : ℤ) - 126) ≤ (2 : ℝ) ^ ((l.val : ℤ) - 127) :=
          zpow_le_zpow_right₀ (by norm_num) (by omega)
        linarith
    · rw [show l.val = 255 by omega, ofBits_word_top]
      exact ⟨fun _ => by omega, fun _ => EReal.coe_lt_top y⟩

/-- The field of zero is zero. -/
theorem field_zero : field 0 = word 0 := by
  have habs : FloatOps.absf (F := Ideal) (φ := .f32) (0 : EReal) = 0 := by
    show max (0 : EReal) (-0) = 0
    simp
  unfold field
  rw [habs, show word 0 = word (0 : Fin 256).val from rfl, ← fold_word 0]
  congr 1
  funext l
  rw [shli_word l]
  refine if_congr ?_ rfl rfl
  rw [Fin.lt_def]
  show _ ↔ 0 < l.val
  have hlt := l.isLt
  rcases Nat.eq_zero_or_pos l.val with h0 | hpos
  · rw [h0, ofBits_word_zero]; simp
  · refine ⟨fun _ => hpos, fun _ => ?_⟩
    rcases Nat.lt_or_ge l.val 255 with h254 | h255
    · rw [ofBits_word l.val hpos (by omega)]
      exact EReal.coe_pos.mpr (by positivity)
    · rw [show l.val = 255 by omega, ofBits_word_top]
      exact EReal.zero_lt_top

theorem scaleOf_bits : ∀ L : Fin 253,
    Scalar.select (IntOp.cmpi .eq (word (L.val + 1)) 0#32) 1065353216#32 (IntOp.addi (word (L.val + 1)) 8388608#32)
      = word (L.val + 2) := by
  decide +kernel

theorem invOf_bits : ∀ L : Fin 252,
    Scalar.select (IntOp.cmpi .eq (word (L.val + 1)) 0#32) 1065353216#32 (IntOp.subi 2122317824#32 (word (L.val + 1)))
      = word (252 - L.val) := by
  decide +kernel

theorem one_bits : Scalar.select (IntOp.cmpi .eq (word 0) 0#32) 1065353216#32 (IntOp.addi (word 0) 8388608#32) = 0x3F800000#32
    ∧ Scalar.select (IntOp.cmpi .eq (word 0) 0#32) 1065353216#32 (IntOp.subi 2122317824#32 (word 0)) = 0x3F800000#32 := by
  decide +kernel

theorem exp2_int (n : ℤ) : Ideal.exp2 (((n : ℝ) : ℝ) : EReal) = (((2 : ℝ) ^ n : ℝ) : EReal) := by
  show ((Real.rpow 2 (n : ℝ) : ℝ) : EReal) = _
  congr 1
  exact Real.rpow_intCast 2 n

/-- The exponent by the logarithm, of a ratio in the binade of exponent `k`. -/
theorem expo_binade (m : EReal) (y : ℝ) (k : ℤ) (hm : m ≠ 0) (hr : ratio m = (y : EReal)) (hl : (2 : ℝ) ^ k ≤ y)
    (hu : y < (2 : ℝ) ^ (k + 1)) : expo m = (((k + 1 : ℤ) : ℝ) : EReal) := by
  have hy : 0 < y := lt_of_lt_of_le (by positivity) hl
  have h2 : 0 < Real.log 2 := Real.log_pos (by norm_num)
  unfold expo
  rw [if_neg hm, hr]
  have hlog : Ideal.log (y : EReal) = ((Real.log y : ℝ) : EReal) := by
    show (if y ≤ 0 then ⊥ else ((Real.log y : ℝ) : EReal)) = _
    rw [if_neg (by linarith)]
  have hdiv : Ideal.div ((Real.log y : ℝ) : EReal) ((Real.log 2 : ℝ) : EReal) = ((Real.log y / Real.log 2 : ℝ) : EReal) := by
    unfold Ideal.div
    rw [if_neg (by exact_mod_cast h2.ne'), ← EReal.coe_inv, ← EReal.coe_mul, div_eq_mul_inv]
  rw [hlog, hdiv]
  show (((Int.floor (Real.log y / Real.log 2) : ℤ) : ℝ) : EReal) + 1 = _
  have hf : Int.floor (Real.log y / Real.log 2) = k := by
    rw [Int.floor_eq_iff, le_div_iff₀ h2, div_lt_iff₀ h2]
    constructor
    · rw [← Real.log_zpow]; exact Real.log_le_log (by positivity) hl
    · rw [show ((k : ℝ) + 1) = ((k + 1 : ℤ) : ℝ) by push_cast; rfl, ← Real.log_zpow]
      exact Real.log_lt_log hy hu
  rw [hf]
  push_cast
  rfl

/-- A ratio the precondition admits, other than zero's, lies in one binade of the fields 1 to 252. -/
theorem exists_binade (m : EReal) (h : Ideal.ofBits .f32 0x00800000#32 ≤ ratio m ∧ ratio m < Ideal.ofBits .f32 0x7E800000#32) :
    ∃ (y : ℝ) (L : Nat), L < 252 ∧ ratio m = (y : EReal) ∧ (2 : ℝ) ^ (((L + 1 : Nat) : ℤ) - 127) ≤ y
      ∧ y < (2 : ℝ) ^ (((L + 1 : Nat) : ℤ) - 126) := by
  have e1 : Ideal.ofBits .f32 0x00800000#32 = (((2 : ℝ) ^ (-126 : ℤ) : ℝ) : EReal) := ofBits_word 1 (by omega) (by omega)
  have e2 : Ideal.ofBits .f32 0x7E800000#32 = (((2 : ℝ) ^ (126 : ℤ) : ℝ) : EReal) := ofBits_word 253 (by omega) (by omega)
  rw [e1, e2] at h
  obtain ⟨hl, hu⟩ := h
  induction hr : ratio m using EReal.rec with
  | bot => rw [hr] at hl; exact absurd hl (by simp)
  | top => rw [hr] at hu; exact absurd hu (by simp)
  | coe y =>
    rw [hr] at hl hu
    rw [EReal.coe_le_coe_iff] at hl
    rw [EReal.coe_lt_coe_iff] at hu
    have hy : 0 < y := lt_of_lt_of_le (by positivity) hl
    obtain ⟨k, hk1, hk2⟩ := exists_mem_Ico_zpow hy (by norm_num : (1 : ℝ) < 2)
    have hk3 : k < 126 := by
      by_contra hc
      have : (2 : ℝ) ^ (126 : ℤ) ≤ (2 : ℝ) ^ k := zpow_le_zpow_right₀ (by norm_num) (by omega)
      linarith
    have hk4 : -126 ≤ k := by
      by_contra hc
      have : (2 : ℝ) ^ (k + 1) ≤ (2 : ℝ) ^ (-126 : ℤ) := zpow_le_zpow_right₀ (by norm_num) (by omega)
      linarith
    refine ⟨y, (k + 126).toNat, by omega, rfl, ?_, ?_⟩
    · rw [show ((((k + 126).toNat + 1 : Nat) : ℤ) - 127) = k by omega]; exact hk1
    · rw [show ((((k + 126).toNat + 1 : Nat) : ℤ) - 126) = k + 1 by omega]; exact hk2

theorem ratio_zero : ratio 0 = 0 := by unfold ratio; exact zero_mul _

/-- The two scales agree on the admitted ratios. -/
theorem scale_eq (m : EReal) (h : Admits m) : scaleOf (field (ratio m)) = Ideal.exp2 (expo m) := by
  by_cases hm : m = 0
  · subst hm
    have e : expo 0 = (((0 : ℤ) : ℝ) : EReal) := by unfold expo; rw [if_pos rfl]; simp
    rw [ratio_zero, field_zero, e, exp2_int]
    unfold scaleOf
    rw [one_bits.1, Ideal.ofBits_one_f32]
    simp
  · obtain ⟨y, L, hL, hr, h1, h2⟩ := exists_binade m (h.resolve_left hm)
    rw [expo_binade m y _ hm hr h1 (by convert h2 using 2; omega), exp2_int, hr,
      field_binade y (L + 1) (by omega) (by omega) h1 h2]
    unfold scaleOf
    rw [scaleOf_bits ⟨L, by omega⟩, ofBits_word (L + 2) (by omega) (by omega)]
    congr 2
    push_cast
    ring

/-- And so do their inverses. -/
theorem inverse_eq (m : EReal) (h : Admits m) : invOf (field (ratio m)) = Ideal.exp2 (0 - expo m) := by
  by_cases hm : m = 0
  · subst hm
    have e : 0 - expo 0 = (((0 : ℤ) : ℝ) : EReal) := by unfold expo; rw [if_pos rfl]; simp
    rw [ratio_zero, field_zero, e, exp2_int]
    unfold invOf
    rw [one_bits.2, Ideal.ofBits_one_f32]
    simp
  · obtain ⟨y, L, hL, hr, h1, h2⟩ := exists_binade m (h.resolve_left hm)
    rw [expo_binade m y _ hm hr h1 (by convert h2 using 2; omega), zero_sub, ← EReal.coe_neg, ← Int.cast_neg, exp2_int, hr,
      field_binade y (L + 1) (by omega) (by omega) h1 h2]
    unfold invOf
    rw [invOf_bits ⟨L, hL⟩, ofBits_word (252 - L) (by omega) (by omega)]
    congr 2
    push_cast [Nat.cast_sub (show L ≤ 252 by omega)]
    ring

end Cert.Scale
-- ==== Proof.QuantiseValue.lean ====
/-
  The blocks the first two pallas_calls write, read at an index over the extended reals.
-/
module

public import proofs.«01_k».proof.Proof.QuantiseBlock
public import proofs.«01_k».proof.Proof.Scale
public import Idealize.ShloMosaic.Lib.Pipeline.ValueKit.Tiles

@[expose] public section

set_option synthInstance.maxSize 4096

noncomputable section

namespace Cert.KernelIdeal.Quantise

open Idealize.ShloMosaic Idealize.SL.Sem
open Cert.KernelIdeal Cert.KernelIdeal.Gen

/-- The largest magnitude of one group of a row. -/
def top (u : Fin 128 → EReal) : EReal :=
  (Finset.univ : Finset (Fin 128)).fold max (Ideal.ofBits .f32 0xFF800000#32)
    (fun l => FloatOps.absf (F := Ideal) (φ := .f32) (u l))

theorem amax_apply (v : Vec Ideal S256x128 .bf16) (r : Fin 256) :
    amax (F := Ideal) v (ix2 r 0) = Scale.ratio (top fun l => v (ix2 r l)) := by
  pointwise [amax]
  rfl

theorem field_apply (x : FVec Ideal S256x1 .f32) (r : Fin 256) : field (F := Ideal) x (ix2 r 0) = Scale.field (x (ix2 r 0)) := by
  pointwise [field, fields]
  rfl

theorem scaleOf_apply (x : IVec S256x1 32) (r : Fin 256) : scaleOf (F := Ideal) x (ix2 r 0) = Scale.scaleOf (x (ix2 r 0)) := by
  pointwise [scaleOf]
  rfl

theorem invOf_apply (x : IVec S256x1 32) (r : Fin 256) : invOf (F := Ideal) x (ix2 r 0) = Scale.invOf (x (ix2 r 0)) := by
  pointwise [invOf]
  rfl

theorem scale_apply (v : Vec Ideal S256x128 .bf16) (r : Fin 256) :
    scale (F := Ideal) v (ix2 r 0) = Scale.scaleOf (Scale.field (Scale.ratio (top fun l => v (ix2 r l)))) := by
  rw [scale, scaleOf_apply, field_apply, amax_apply]

theorem codes_apply (v : Vec Ideal S256x128 .bf16) (r : Fin 256) (l : Fin 128) :
    codes (F := Ideal) v (ix2 r l) = min (Ideal.ofBits .f32 0x43E00000#32) (max (Ideal.ofBits .f32 0xC3E00000#32)
      (v (ix2 r l) * Scale.invOf (Scale.field (Scale.ratio (top fun l => v (ix2 r l)))))) := by
  rw [← amax_apply, ← field_apply, ← invOf_apply]
  pointwise [codes]

theorem dequantised_apply (v : Vec Ideal S256x128 .bf16) (r : Fin 256) (l : Fin 128) :
    dequantised (F := Ideal) v (ix2 r l) = (codes (F := Ideal) v (ix2 r l) * scale (F := Ideal) v (ix2 r 0) : EReal) := by
  pointwise [dequantised]

theorem group_word : ∀ g g' : Fin 72, Scalar.select (IntOp.cmpi CmpIPredicate.eq (BitVec.ofNat 32 g'.val) (BitVec.ofNat 32 g.val)) true false
    = decide (g' = g) := by
  decide +kernel

theorem putScale_apply (x : Vec Ideal S256x9216 .bf16) (s : FVec Ideal S256x72 .f32) (g : Fin 72) (r : Fin 256) (g' : Fin 72) :
    putScale (F := Ideal) x s g (ix2 r g') = if g' = g then scale (F := Ideal) (View.ld x (cols g)) (ix2 r 0) else s (ix2 r g') := by
  pointwise [putScale]
  have h := group_word g g'
  unfold Scalar.select at h ⊢
  split_ifs at h ⊢ <;> simp_all

/-- The column `l` of group `g` of a block. -/
theorem ld_cols (x : Vec Ideal S256x9216 .bf16) (g : Fin 72) (r : Fin 256) (l : Fin 128) :
    View.ld x (cols g) (ix2 r l) = x (ix2 r (Scale.lane g l)) :=
  View.ld_unit_apply_of x _ _ _ (ix2 r l) (ix2 r (Scale.lane g l))
    (Fin.forall_fin_two.mpr ⟨(Nat.zero_add _).symm, show g.val * 128 + l.val = 128 * g.val + l.val by omega⟩)

/-- A block written group by group, read at a column: its group's part at the column's place in it. -/
theorem canon_cols {e : EltTy} (P : Fin 72 → S256x128.Idx → Elt Ideal e) (V : Fin 256 → Fin 9216 → Elt Ideal e)
    (hP : ∀ g r l, P g (ix2 r l) = V r (Scale.lane g l)) (r : Fin 256) (c : Fin 9216) :
    View.canon (List.ofFn fun k : Fin 72 => (⟨cols k.rev, P k.rev⟩ : View.Piece (Elt Ideal) S256x9216 e)) (ix2 r c) = V r c := by
  refine View.canon_ofFn_unit_eq_of_forall (S := S256x9216) (fun k : Fin 72 => ![0, 128 * k.rev.val]) S256x128.size (fun k => cols_inb k.rev)
    (fun k => P k.rev) (ix2 r c) (V r c) ⟨(Scale.groupOf c).rev, ?_⟩ ?_
  · rw [Fin.rev_rev]
    refine Fin.forall_fin_two.mpr ⟨⟨Nat.zero_le _, ?_⟩, ?_, ?_⟩
    · show r.val < 0 + 256; omega
    · show 128 * (c.val / 128) ≤ c.val; omega
    · show c.val < 128 * (c.val / 128) + 128; omega
  · intro k x hx
    have hr : r.val = 0 + (x 0).val := hx 0
    have hc : c.val = 128 * k.rev.val + (x 1).val := hx 1
    have hx0 : x = ix2 (x 0) (x 1) := eq_ix2 x
    have e0 : r = x 0 := Fin.ext (by omega)
    have e1 : c = Scale.lane k.rev (x 1) := Fin.ext (by rw [hc]; show _ = k.rev.val * 128 + (x 1).val; omega)
    rw [hx0]
    refine (hP k.rev (x 0) (x 1)).trans ?_
    rw [e1, e0]

/-- The code of column `l` of group `g`, of the whole block. -/
theorem codes_cols (x : Vec Ideal S256x9216 .bf16) (g : Fin 72) (r : Fin 256) (l : Fin 128) :
    codes (F := Ideal) (View.ld x (cols g)) (ix2 r l) = Scale.codeAt (fun k => x (ix2 r k)) (Scale.lane g l) := by
  have h : (fun l => View.ld x (cols g) (ix2 r l)) = fun l => x (ix2 r (Scale.lane g l)) := funext (ld_cols x g r)
  refine (codes_apply _ r l).trans ?_
  rw [Scale.codeAt, Scale.groupOf_lane]
  exact congrArg (fun u : Fin 128 → EReal => min (Ideal.ofBits .f32 0x43E00000#32) (max (Ideal.ofBits .f32 0xC3E00000#32)
      (u l * Scale.invOf (Scale.field (Scale.ratio (top u)))))) h

/-- The scale of group `g`, of the whole block. -/
theorem scale_cols (x : Vec Ideal S256x9216 .bf16) (g : Fin 72) (r : Fin 256) :
    scale (F := Ideal) (View.ld x (cols g)) (ix2 r 0) = Scale.scaleAt (fun k => x (ix2 r k)) g := by
  have h : (fun l => View.ld x (cols g) (ix2 r l)) = fun l => x (ix2 r (Scale.lane g l)) := funext (ld_cols x g r)
  exact (scale_apply _ r).trans
    (congrArg (fun u : Fin 128 → EReal => Scale.scaleOf (Scale.field (Scale.ratio (top u)))) h)

/-- The codes' block. -/
theorem out0_1_apply (x : Vec Ideal S256x9216 .bf16) (r : Fin 256) (c : Fin 9216) :
    Gen.out0_1 (F := Ideal) x (ix2 r c) = Scale.codeAt (fun k => x (ix2 r k)) c := by
  rw [out0_1_eq]
  exact canon_cols (e := .fp8e4m3) (fun g => codes (View.ld x (cols g))) (fun r c => Scale.codeAt (fun k => x (ix2 r k)) c)
    (fun g r l => codes_cols x g r l) r c

/-- The block of values back from the codes. -/
theorem out0_3_apply (x : Vec Ideal S256x9216 .bf16) (r : Fin 256) (c : Fin 9216) :
    Gen.out0_3 (F := Ideal) x (ix2 r c) = Scale.backAt (fun k => x (ix2 r k)) c := by
  rw [out0_3_eq]
  refine canon_cols (e := .bf16) (fun g => dequantised (View.ld x (cols g))) (fun r c => Scale.backAt (fun k => x (ix2 r k)) c)
    (fun g r l => ?_) r c
  refine (dequantised_apply _ r l).trans ?_
  rw [codes_cols, scale_cols, Scale.backAt, Scale.groupOf_lane]

/-- Columns put in one after the other, over any number of groups: the column of a group put in is that group's. -/
theorem foldl_putScale (x : Vec Ideal S256x9216 .bf16) (s : FVec Ideal S256x72 .f32) (r : Fin 256) (g : Fin 72) :
    ∀ L : List (Fin 72), g ∈ L →
      (L.foldl (putScale x) s) (ix2 r g) = Scale.scaleAt (fun k => x (ix2 r k)) g := by
  intro L
  induction L using List.reverseRecOn with
  | nil => intro h; exact absurd h List.not_mem_nil
  | append_singleton L a ih =>
    intro h
    rw [List.foldl_append, List.foldl_cons, List.foldl_nil, putScale_apply]
    split_ifs with hg
    · rw [scale_cols, hg]
    · exact ih ((List.mem_append.mp h).resolve_right (by simpa using hg))

/-- The scales' block. -/
theorem out0_2_apply (x : Vec Ideal S256x9216 .bf16) (r : Fin 256) (g : Fin 72) :
    Gen.out0_2 (F := Ideal) x (ix2 r g) = Scale.scaleAt (fun k => x (ix2 r k)) g := by
  have hz : (![0, 0] : Fin 2 → Nat) = fun _ => 0 := funext (Fin.forall_fin_two.mpr ⟨rfl, rfl⟩)
  rw [out0_2_eq]
  unfold Gen.r0_72
  rw [View.canon_unit_zero hz, Fin.foldl_eq_finRange_foldl]
  exact foldl_putScale x _ r g _ (List.mem_finRange g)

/-- Column `g` of the weight's scales. -/
theorem col_inb (g : Fin 72) : ∀ a, (![0, g.val] : Fin 2 → Nat) a + S256x1.size a ≤ S256x72.size a := by
  have h := g.isLt
  exact Fin.forall_fin_two.mpr ⟨Nat.le_refl 256, show g.val + 1 ≤ 72 by omega⟩

abbrev col (g : Fin 72) : Rect S256x72 := Rect.unit (s := S256x72) ![0, g.val] S256x1.size (col_inb g)

/-- A group of the weight times its scale. -/
def rescaled {F : FTy → Type} [FloatOps F] (w : Vec F S256x128 .fp8e4m3) (s : Vec F S256x1 .f32) : FVec F S256x128 .bf16 :=
  mulf (extf .bf16 w bitsLt_fp8e4m3_bf16)
    (broadcastTo S256x128 (truncf .bf16 s bitsLt_bf16_f32) broadcasts_S256x1_S256x128)

set_option maxRecDepth 100000 in
/-- The second pallas_call's block is written group by group as well. -/
theorem out1_2_eq {F : FTy → Type} [FloatOps F] (w : Vec F S256x9216 .fp8e4m3) (s : Vec F S256x72 .f32) :
    Gen.out1_2 w s = View.canon (List.ofFn fun k : Fin 72 =>
      (⟨cols k.rev, rescaled (View.ld w (cols k.rev)) (View.ld s (col k.rev))⟩ : View.Piece (Elt F) S256x9216 .bf16)) := by
  rfl

theorem rescaled_apply (w : Vec Ideal S256x128 .fp8e4m3) (s : Vec Ideal S256x1 .f32) (r : Fin 256) (l : Fin 128) :
    rescaled (F := Ideal) w s (ix2 r l) = (w (ix2 r l) * s (ix2 r 0) : EReal) := by
  pointwise [rescaled]

/-- The dequantised weight's block. -/
theorem out1_2_apply (w : Vec Ideal S256x9216 .fp8e4m3) (s : Vec Ideal S256x72 .f32) (r : Fin 256) (c : Fin 9216) :
    Gen.out1_2 (F := Ideal) w s (ix2 r c) = (w (ix2 r c) * s (ix2 r (Scale.groupOf c)) : EReal) := by
  rw [out1_2_eq]
  refine canon_cols (e := .bf16) (fun g => rescaled (View.ld w (cols g)) (View.ld s (col g)))
    (fun r c => (w (ix2 r c) * s (ix2 r (Scale.groupOf c)) : EReal)) (fun g r l => ?_) r c
  refine (rescaled_apply _ _ r l).trans ?_
  have e1 : View.ld w (cols g) (ix2 r l) = w (ix2 r (Scale.lane g l)) :=
    View.ld_unit_apply_of w _ _ _ (ix2 r l) (ix2 r (Scale.lane g l))
      (Fin.forall_fin_two.mpr ⟨(Nat.zero_add _).symm, show g.val * 128 + l.val = 128 * g.val + l.val by omega⟩)
  have e2 : View.ld s (col g) (ix2 r 0) = s (ix2 r g) :=
    View.ld_unit_apply_of s _ _ _ (ix2 r 0) (ix2 r g)
      (Fin.forall_fin_two.mpr ⟨(Nat.zero_add _).symm, (Nat.add_zero _).symm⟩)
  rw [Scale.groupOf_lane]
  exact congrArg₂ (fun a b : EReal => a * b) e1 e2

/-- The third pallas_call's block: the product of its two operands' rows. -/
theorem out2_2_apply (x : Vec Ideal S1024x9216 .bf16) (y : Vec Ideal S512x9216 .bf16) (r : Fin 1024) (n : Fin 512) :
    Gen.out2_2 (F := Ideal) x y (ix2 r n) = ∑ k : Fin 9216, (x (ix2 r k) * y (ix2 n k) : EReal) := by
  have hz : (![0, 0] : Fin 2 → Nat) = fun _ => 0 := funext (Fin.forall_fin_two.mpr ⟨rfl, rfl⟩)
  unfold Gen.out2_2 Gen.r2_2 Gen.r2_0 Gen.r2_1
  rw [View.canon_unit_zero hz, View.ld_unit_zero hz, View.ld_unit_zero hz]
  pointwise [Gen.k2_pay1]

end Cert.KernelIdeal.Quantise
-- ==== Proof.KernelValue.lean ====
/-
  What the three pallas_calls leave in their result arrays, over the extended reals: each array as one function of the
  arrays the call reads, whatever those hold.
-/
module

public import proofs.«01_k».proof.Proof.QuantiseValue
public import Idealize.ShloMosaic.Lib.Pipeline.Value

@[expose] public section

set_option synthInstance.maxSize 4096

noncomputable section

namespace Cert.KernelIdeal.Quantise

open Idealize.ShloMosaic Idealize.ShloMosaic.TcCoe Idealize.SL.Sem
open Cert.KernelIdeal Cert.KernelIdeal.Gen

/-- Row `i` of a matrix of 9216 columns. -/
def rowOf {n : Nat} (x : (⟨2, ![n, 9216]⟩ : Shape).Idx → EReal) (i : Fin n) : Fin 9216 → EReal := fun k => x (ix2 i k)

/-- The codes of a matrix. -/
def codesArr (x : S32768x9216.Idx → EReal) : S32768x9216.Idx → EReal := fun i => Scale.codeAt (rowOf x (i 0)) (i 1)
/-- The scales of a matrix. -/
def scalesArr (x : S32768x9216.Idx → EReal) : S32768x72.Idx → EReal := fun i => Scale.scaleAt (rowOf x (i 0)) (i 1)
/-- The matrix back from its codes. -/
def backArr (x : S32768x9216.Idx → EReal) : S32768x9216.Idx → EReal := fun i => Scale.backAt (rowOf x (i 0)) (i 1)

variable (V : (c : Dev nD) → (b : Ref sig .tc) → Buf (Elt Ideal) ((c : Thread nD τ).loc b))

/-- Point `t` of the first call is on rows `256 t` and on of each of its arrays, at column 0. -/
theorem index0 : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0) := by
  decide +kernel

/-- The row of the whole matrix that is row `r` of block `t`. -/
def at0 (t : Fin cfg0.N) (r : Fin 256) : Fin 32768 :=
  ⟨t.val * 256 + r.val, by have h : t.val < 128 := t.isLt.trans_eq N_0; omega⟩

theorem iblk0_apply (c : Dev nD) (t : Fin cfg0.N) (r : Fin 256) (k : Fin 9216) :
    iblk0 V c 0 t (ix2 r k) = V c main_v0 (ix2 (at0 t r) k) := by
  unfold iblk0
  refine congrArg (V c main_v0) (funext (Fin.forall_fin_two.mpr ⟨Fin.ext ?_, Fin.ext ?_⟩))
  · show win0_0.index t 0 * 256 + 1 * r.val = t.val * 256 + r.val
    rw [(index0 t).1.1]; omega
  · show win0_0.index t 1 * 9216 + 1 * k.val = k.val
    rw [(index0 t).1.2]; omega

theorem emb0_1 (t : Fin cfg0.N) (r : Fin 256) (k : Fin 9216) (G : S32768x9216.Idx → EReal) :
    ((cfg0.win 1).blk t).view.read (Elt Ideal) G (ix2 r k) = G (ix2 (at0 t r) k) := by
  refine congrArg G (funext (Fin.forall_fin_two.mpr ⟨Fin.ext ?_, Fin.ext ?_⟩))
  · show win0_1.index t 0 * 256 + 1 * r.val = t.val * 256 + r.val
    rw [(index0 t).2.1.1]; omega
  · show win0_1.index t 1 * 9216 + 1 * k.val = k.val
    rw [(index0 t).2.1.2]; omega

theorem flushed0_1 (c : Dev nD) (t : Fin cfg0.N) :
    (dat0 V c).flushed 1 t = ((cfg0.win 1).blk t).view.read (Elt Ideal) (codesArr (V c main_v0)) := by
  show (cfg0.win 1).cut (grid0.coords t) ((dat0 V c).after 1 t) = _
  rw [after0_1]
  funext j
  have hj : j = ix2 (j 0) (j 1) := eq_ix2 j
  rw [hj]
  refine Eq.trans ?_ (emb0_1 t (j 0) (j 1) _).symm
  refine (out0_1_apply (iblk0 V c 0 t) (j 0) (j 1)).trans ?_
  show _ = Scale.codeAt (rowOf (V c main_v0) (at0 t (j 0))) (j 1)
  refine congrArg (fun u => Scale.codeAt u (j 1)) (funext fun k => iblk0_apply V c t (j 0) k)

theorem covered0_1 (i : S32768x9216.Idx) :
    ∃ t : Fin cfg0.N, (cfg0.win 1).flush t = true ∧ i ∈ ((cfg0.win 1).blk t).view.set := by
  have h0 : (i 0 : Nat) < 32768 := (i 0).isLt
  have h1 : (i 1 : Nat) < 9216 := (i 1).isLt
  have hN : cfg0.N = 128 := N_0
  have ht : (i 0 : Nat) / 256 < cfg0.N := by omega
  refine ⟨⟨(i 0 : Nat) / 256, ht⟩, flush0_1 _, ?_⟩
  show i ∈ ((View.whole main_v1_0).slice (win0_1.rect ⟨(i 0 : Nat) / 256, ht⟩)).set
  rw [View.set_slice_whole, Rect.mem_set_unit]
  refine Fin.forall_fin_two.mpr ⟨?_, ?_⟩
  · show win0_1.index ⟨(i 0 : Nat) / 256, ht⟩ 0 * 256 ≤ (i 0 : Nat) ∧ (i 0 : Nat) < win0_1.index ⟨(i 0 : Nat) / 256, ht⟩ 0 * 256 + 256
    rw [(index0 ⟨(i 0 : Nat) / 256, ht⟩).2.1.1]; dsimp only; omega
  · show win0_1.index ⟨(i 0 : Nat) / 256, ht⟩ 1 * 9216 ≤ (i 1 : Nat) ∧ (i 1 : Nat) < win0_1.index ⟨(i 0 : Nat) / 256, ht⟩ 1 * 9216 + 9216
    rw [(index0 ⟨(i 0 : Nat) / 256, ht⟩).2.1.2]; omega

/-- The first call's codes. -/
theorem final0_1 (c : Dev nD) : (dat0 V c).arrAt 1 cfg0.N = codesArr (V c main_v0) :=
  (dat0 V c).arrAt_eq_of_cover 1 (codesArr (V c main_v0)) (fun t _ => flushed0_1 V c t) covered0_1

theorem emb0_2 (t : Fin cfg0.N) (r : Fin 256) (k : Fin 72) (G : S32768x72.Idx → EReal) :
    ((cfg0.win 2).blk t).view.read (Elt Ideal) G (ix2 r k) = G (ix2 (at0 t r) k) := by
  refine congrArg G (funext (Fin.forall_fin_two.mpr ⟨Fin.ext ?_, Fin.ext ?_⟩))
  · show win0_2.index t 0 * 256 + 1 * r.val = t.val * 256 + r.val
    rw [(index0 t).2.2.1.1]; omega
  · show win0_2.index t 1 * 72 + 1 * k.val = k.val
    rw [(index0 t).2.2.1.2]; omega

theorem flushed0_2 (c : Dev nD) (t : Fin cfg0.N) :
    (dat0 V c).flushed 2 t = ((cfg0.win 2).blk t).view.read (Elt Ideal) (scalesArr (V c main_v0)) := by
  show (cfg0.win 2).cut (grid0.coords t) ((dat0 V c).after 2 t) = _
  rw [after0_2]
  funext j
  have hj : j = ix2 (j 0) (j 1) := eq_ix2 j
  rw [hj]
  refine Eq.trans ?_ (emb0_2 t (j 0) (j 1) _).symm
  refine (out0_2_apply (iblk0 V c 0 t) (j 0) (j 1)).trans ?_
  show _ = Scale.scaleAt (rowOf (V c main_v0) (at0 t (j 0))) (j 1)
  refine congrArg (fun u => Scale.scaleAt u (j 1)) (funext fun k => iblk0_apply V c t (j 0) k)

theorem covered0_2 (i : S32768x72.Idx) :
    ∃ t : Fin cfg0.N, (cfg0.win 2).flush t = true ∧ i ∈ ((cfg0.win 2).blk t).view.set := by
  have h0 : (i 0 : Nat) < 32768 := (i 0).isLt
  have h1 : (i 1 : Nat) < 72 := (i 1).isLt
  have hN : cfg0.N = 128 := N_0
  have ht : (i 0 : Nat) / 256 < cfg0.N := by omega
  refine ⟨⟨(i 0 : Nat) / 256, ht⟩, flush0_2 _, ?_⟩
  show i ∈ ((View.whole main_v1_1).slice (win0_2.rect ⟨(i 0 : Nat) / 256, ht⟩)).set
  rw [View.set_slice_whole, Rect.mem_set_unit]
  refine Fin.forall_fin_two.mpr ⟨?_, ?_⟩
  · show win0_2.index ⟨(i 0 : Nat) / 256, ht⟩ 0 * 256 ≤ (i 0 : Nat) ∧ (i 0 : Nat) < win0_2.index ⟨(i 0 : Nat) / 256, ht⟩ 0 * 256 + 256
    rw [(index0 ⟨(i 0 : Nat) / 256, ht⟩).2.2.1.1]; dsimp only; omega
  · show win0_2.index ⟨(i 0 : Nat) / 256, ht⟩ 1 * 72 ≤ (i 1 : Nat) ∧ (i 1 : Nat) < win0_2.index ⟨(i 0 : Nat) / 256, ht⟩ 1 * 72 + 72
    rw [(index0 ⟨(i 0 : Nat) / 256, ht⟩).2.2.1.2]; omega

/-- The first call's scales. -/
theorem final0_2 (c : Dev nD) : (dat0 V c).arrAt 2 cfg0.N = scalesArr (V c main_v0) :=
  (dat0 V c).arrAt_eq_of_cover 2 (scalesArr (V c main_v0)) (fun t _ => flushed0_2 V c t) covered0_2

theorem emb0_3 (t : Fin cfg0.N) (r : Fin 256) (k : Fin 9216) (G : S32768x9216.Idx → EReal) :
    ((cfg0.win 3).blk t).view.read (Elt Ideal) G (ix2 r k) = G (ix2 (at0 t r) k) := by
  refine congrArg G (funext (Fin.forall_fin_two.mpr ⟨Fin.ext ?_, Fin.ext ?_⟩))
  · show win0_3.index t 0 * 256 + 1 * r.val = t.val * 256 + r.val
    rw [(index0 t).2.2.2.1]; omega
  · show win0_3.index t 1 * 9216 + 1 * k.val = k.val
    rw [(index0 t).2.2.2.2]; omega

theorem flushed0_3 (c : Dev nD) (t : Fin cfg0.N) :
    (dat0 V c).flushed 3 t = ((cfg0.win 3).blk t).view.read (Elt Ideal) (backArr (V c main_v0)) := by
  show (cfg0.win 3).cut (grid0.coords t) ((dat0 V c).after 3 t) = _
  rw [after0_3]
  funext j
  have hj : j = ix2 (j 0) (j 1) := eq_ix2 j
  rw [hj]
  refine Eq.trans ?_ (emb0_3 t (j 0) (j 1) _).symm
  refine (out0_3_apply (iblk0 V c 0 t) (j 0) (j 1)).trans ?_
  show _ = Scale.backAt (rowOf (V c main_v0) (at0 t (j 0))) (j 1)
  refine congrArg (fun u => Scale.backAt u (j 1)) (funext fun k => iblk0_apply V c t (j 0) k)

theorem covered0_3 (i : S32768x9216.Idx) :
    ∃ t : Fin cfg0.N, (cfg0.win 3).flush t = true ∧ i ∈ ((cfg0.win 3).blk t).view.set := by
  have h0 : (i 0 : Nat) < 32768 := (i 0).isLt
  have h1 : (i 1 : Nat) < 9216 := (i 1).isLt
  have hN : cfg0.N = 128 := N_0
  have ht : (i 0 : Nat) / 256 < cfg0.N := by omega
  refine ⟨⟨(i 0 : Nat) / 256, ht⟩, flush0_3 _, ?_⟩
  show i ∈ ((View.whole main_v1_2).slice (win0_3.rect ⟨(i 0 : Nat) / 256, ht⟩)).set
  rw [View.set_slice_whole, Rect.mem_set_unit]
  refine Fin.forall_fin_two.mpr ⟨?_, ?_⟩
  · show win0_3.index ⟨(i 0 : Nat) / 256, ht⟩ 0 * 256 ≤ (i 0 : Nat) ∧ (i 0 : Nat) < win0_3.index ⟨(i 0 : Nat) / 256, ht⟩ 0 * 256 + 256
    rw [(index0 ⟨(i 0 : Nat) / 256, ht⟩).2.2.2.1]; dsimp only; omega
  · show win0_3.index ⟨(i 0 : Nat) / 256, ht⟩ 1 * 9216 ≤ (i 1 : Nat) ∧ (i 1 : Nat) < win0_3.index ⟨(i 0 : Nat) / 256, ht⟩ 1 * 9216 + 9216
    rw [(index0 ⟨(i 0 : Nat) / 256, ht⟩).2.2.2.2]; omega

/-- The first call's values back from the codes. -/
theorem final0_3 (c : Dev nD) : (dat0 V c).arrAt 3 cfg0.N = backArr (V c main_v0) :=
  (dat0 V c).arrAt_eq_of_cover 3 (backArr (V c main_v0)) (fun t _ => flushed0_3 V c t) covered0_3

/-! ## The second call -/

/-- The dequantised weight. -/
def weightArr (w : S7168x9216.Idx → EReal) (s : S7168x72.Idx → EReal) : S7168x9216.Idx → EReal :=
  fun i => w (ix2 (i 0) (i 1)) * s (ix2 (i 0) (Scale.groupOf (i 1)))

/-- Point `t` of the second call is on rows `256 t` and on of each of its arrays, at column 0. -/
theorem index1 : ∀ t : Fin cfg1.N,
    (win1_0.index t 0 = t.val ∧ win1_0.index t 1 = 0) ∧ (win1_1.index t 0 = t.val ∧ win1_1.index t 1 = 0)
      ∧ (win1_2.index t 0 = t.val ∧ win1_2.index t 1 = 0) := by
  decide +kernel

/-- The row of the weight that is row `r` of block `t`. -/
def at1 (t : Fin cfg1.N) (r : Fin 256) : Fin 7168 :=
  ⟨t.val * 256 + r.val, by have h : t.val < 28 := t.isLt.trans_eq N_1; omega⟩

theorem iblk1_0_apply (c : Dev nD) (t : Fin cfg1.N) (r : Fin 256) (k : Fin 9216) :
    iblk1 V c 0 t (ix2 r k) = V c main_arg1 (ix2 (at1 t r) k) := by
  unfold iblk1
  refine congrArg (V c main_arg1) (funext (Fin.forall_fin_two.mpr ⟨Fin.ext ?_, Fin.ext ?_⟩))
  · show win1_0.index t 0 * 256 + 1 * r.val = t.val * 256 + r.val
    rw [(index1 t).1.1]; omega
  · show win1_0.index t 1 * 9216 + 1 * k.val = k.val
    rw [(index1 t).1.2]; omega

theorem iblk1_1_apply (c : Dev nD) (t : Fin cfg1.N) (r : Fin 256) (g : Fin 72) :
    iblk1 V c 1 t (ix2 r g) = V c main_arg2 (ix2 (at1 t r) g) := by
  unfold iblk1
  refine congrArg (V c main_arg2) (funext (Fin.forall_fin_two.mpr ⟨Fin.ext ?_, Fin.ext ?_⟩))
  · show win1_1.index t 0 * 256 + 1 * r.val = t.val * 256 + r.val
    rw [(index1 t).2.1.1]; omega
  · show win1_1.index t 1 * 72 + 1 * g.val = g.val
    rw [(index1 t).2.1.2]; omega

theorem emb1_2 (t : Fin cfg1.N) (r : Fin 256) (k : Fin 9216) (G : S7168x9216.Idx → EReal) :
    ((cfg1.win 2).blk t).view.read (Elt Ideal) G (ix2 r k) = G (ix2 (at1 t r) k) := by
  refine congrArg G (funext (Fin.forall_fin_two.mpr ⟨Fin.ext ?_, Fin.ext ?_⟩))
  · show win1_2.index t 0 * 256 + 1 * r.val = t.val * 256 + r.val
    rw [(index1 t).2.2.1]; omega
  · show win1_2.index t 1 * 9216 + 1 * k.val = k.val
    rw [(index1 t).2.2.2]; omega

theorem flushed1_2 (c : Dev nD) (t : Fin cfg1.N) :
    (dat1 V c).flushed 2 t = ((cfg1.win 2).blk t).view.read (Elt Ideal) (weightArr (V c main_arg1) (V c main_arg2)) := by
  show (cfg1.win 2).cut (grid1.coords t) ((dat1 V c).after 2 t) = _
  rw [after1_2]
  funext j
  have hj : j = ix2 (j 0) (j 1) := eq_ix2 j
  rw [hj]
  refine Eq.trans ?_ (emb1_2 t (j 0) (j 1) _).symm
  refine (out1_2_apply (iblk1 V c 0 t) (iblk1 V c 1 t) (j 0) (j 1)).trans ?_
  exact congrArg₂ (fun a b : EReal => a * b) (iblk1_0_apply V c t (j 0) (j 1)) (iblk1_1_apply V c t (j 0) (Scale.groupOf (j 1)))

theorem covered1_2 (i : S7168x9216.Idx) :
    ∃ t : Fin cfg1.N, (cfg1.win 2).flush t = true ∧ i ∈ ((cfg1.win 2).blk t).view.set := by
  have h0 : (i 0 : Nat) < 7168 := (i 0).isLt
  have h1 : (i 1 : Nat) < 9216 := (i 1).isLt
  have hN : cfg1.N = 28 := N_1
  have ht : (i 0 : Nat) / 256 < cfg1.N := by omega
  refine ⟨⟨(i 0 : Nat) / 256, ht⟩, flush1_2 _, ?_⟩
  show i ∈ ((View.whole main_v2).slice (win1_2.rect ⟨(i 0 : Nat) / 256, ht⟩)).set
  rw [View.set_slice_whole, Rect.mem_set_unit]
  refine Fin.forall_fin_two.mpr ⟨?_, ?_⟩
  · show win1_2.index ⟨(i 0 : Nat) / 256, ht⟩ 0 * 256 ≤ (i 0 : Nat) ∧ (i 0 : Nat) < win1_2.index ⟨(i 0 : Nat) / 256, ht⟩ 0 * 256 + 256
    rw [(index1 ⟨(i 0 : Nat) / 256, ht⟩).2.2.1]; dsimp only; omega
  · show win1_2.index ⟨(i 0 : Nat) / 256, ht⟩ 1 * 9216 ≤ (i 1 : Nat) ∧ (i 1 : Nat) < win1_2.index ⟨(i 0 : Nat) / 256, ht⟩ 1 * 9216 + 9216
    rw [(index1 ⟨(i 0 : Nat) / 256, ht⟩).2.2.2]; omega

/-- The second call's dequantised weight. -/
theorem final1_2 (c : Dev nD) : (dat1 V c).arrAt 2 cfg1.N = weightArr (V c main_arg1) (V c main_arg2) :=
  (dat1 V c).arrAt_eq_of_cover 2 (weightArr (V c main_arg1) (V c main_arg2)) (fun t _ => flushed1_2 V c t) covered1_2

/-! ## The third call -/

/-- The products of the rows of two matrices. -/
def productArr (x : S32768x9216.Idx → EReal) (y : S7168x9216.Idx → EReal) : S32768x7168.Idx → EReal :=
  fun i => ∑ k : Fin 9216, x (ix2 (i 0) k) * y (ix2 (i 1) k)

/-- Point `t` of the third call is on rows `1024 (t / 14)` of its first operand, rows `512 (t % 14)` of its second. -/
theorem index2 : ∀ t : Fin cfg2.N,
    (win2_0.index t 0 = t.val / 14 ∧ win2_0.index t 1 = 0) ∧ (win2_1.index t 0 = t.val % 14 ∧ win2_1.index t 1 = 0)
      ∧ (win2_2.index t 0 = t.val / 14 ∧ win2_2.index t 1 = t.val % 14) := by
  decide +kernel

/-- The row of the first operand that is row `r` of point `t`'s block, -/
def atM (t : Fin cfg2.N) (r : Fin 1024) : Fin 32768 :=
  ⟨t.val / 14 * 1024 + r.val, by have h : t.val < 448 := t.isLt.trans_eq N_2; omega⟩

/-- and of the second. -/
def atN (t : Fin cfg2.N) (n : Fin 512) : Fin 7168 := ⟨t.val % 14 * 512 + n.val, by omega⟩

theorem iblk2_0_apply (c : Dev nD) (t : Fin cfg2.N) (r : Fin 1024) (k : Fin 9216) :
    iblk2 V c 0 t (ix2 r k) = V c main_v1_2 (ix2 (atM t r) k) := by
  unfold iblk2
  refine congrArg (V c main_v1_2) (funext (Fin.forall_fin_two.mpr ⟨Fin.ext ?_, Fin.ext ?_⟩))
  · show win2_0.index t 0 * 1024 + 1 * r.val = t.val / 14 * 1024 + r.val
    rw [(index2 t).1.1]; omega
  · show win2_0.index t 1 * 9216 + 1 * k.val = k.val
    rw [(index2 t).1.2]; omega

theorem iblk2_1_apply (c : Dev nD) (t : Fin cfg2.N) (n : Fin 512) (k : Fin 9216) :
    iblk2 V c 1 t (ix2 n k) = V c main_v2 (ix2 (atN t n) k) := by
  unfold iblk2
  refine congrArg (V c main_v2) (funext (Fin.forall_fin_two.mpr ⟨Fin.ext ?_, Fin.ext ?_⟩))
  · show win2_1.index t 0 * 512 + 1 * n.val = t.val % 14 * 512 + n.val
    rw [(index2 t).2.1.1]; omega
  · show win2_1.index t 1 * 9216 + 1 * k.val = k.val
    rw [(index2 t).2.1.2]; omega

theorem emb2_2 (t : Fin cfg2.N) (r : Fin 1024) (n : Fin 512) (G : S32768x7168.Idx → EReal) :
    ((cfg2.win 2).blk t).view.read (Elt Ideal) G (ix2 r n) = G (ix2 (atM t r) (atN t n)) := by
  refine congrArg G (funext (Fin.forall_fin_two.mpr ⟨Fin.ext ?_, Fin.ext ?_⟩))
  · show win2_2.index t 0 * 1024 + 1 * r.val = t.val / 14 * 1024 + r.val
    rw [(index2 t).2.2.1]; omega
  · show win2_2.index t 1 * 512 + 1 * n.val = t.val % 14 * 512 + n.val
    rw [(index2 t).2.2.2]; omega

theorem flushed2_2 (c : Dev nD) (t : Fin cfg2.N) :
    (dat2 V c).flushed 2 t = ((cfg2.win 2).blk t).view.read (Elt Ideal) (productArr (V c main_v1_2) (V c main_v2)) := by
  show (cfg2.win 2).cut (grid2.coords t) ((dat2 V c).after 2 t) = _
  rw [after2_2]
  funext j
  have hj : j = ix2 (j 0) (j 1) := eq_ix2 j
  rw [hj]
  refine Eq.trans ?_ (emb2_2 t (j 0) (j 1) _).symm
  refine (out2_2_apply (iblk2 V c 0 t) (iblk2 V c 1 t) (j 0) (j 1)).trans ?_
  exact Finset.sum_congr rfl fun k _ =>
    congrArg₂ (fun a b : EReal => a * b) (iblk2_0_apply V c t (j 0) k) (iblk2_1_apply V c t (j 1) k)

theorem covered2_2 (i : S32768x7168.Idx) :
    ∃ t : Fin cfg2.N, (cfg2.win 2).flush t = true ∧ i ∈ ((cfg2.win 2).blk t).view.set := by
  have h0 : (i 0 : Nat) < 32768 := (i 0).isLt
  have h1 : (i 1 : Nat) < 7168 := (i 1).isLt
  have hN : cfg2.N = 448 := N_2
  obtain ⟨q, hq⟩ : ∃ q, q = (i 0 : Nat) / 1024 * 14 + (i 1 : Nat) / 512 := ⟨_, rfl⟩
  have ht : q < cfg2.N := by omega
  refine ⟨⟨q, ht⟩, flush2_2 _, ?_⟩
  show i ∈ ((View.whole main_v3).slice (win2_2.rect ⟨q, ht⟩)).set
  rw [View.set_slice_whole, Rect.mem_set_unit]
  refine Fin.forall_fin_two.mpr ⟨?_, ?_⟩
  · show win2_2.index ⟨q, ht⟩ 0 * 1024 ≤ (i 0 : Nat) ∧ (i 0 : Nat) < win2_2.index ⟨q, ht⟩ 0 * 1024 + 1024
    rw [(index2 ⟨q, ht⟩).2.2.1]; dsimp only; omega
  · show win2_2.index ⟨q, ht⟩ 1 * 512 ≤ (i 1 : Nat) ∧ (i 1 : Nat) < win2_2.index ⟨q, ht⟩ 1 * 512 + 512
    rw [(index2 ⟨q, ht⟩).2.2.2]; dsimp only; omega

/-- The third call's products. -/
theorem final2_2 (c : Dev nD) : (dat2 V c).arrAt 2 cfg2.N = productArr (V c main_v1_2) (V c main_v2) :=
  (dat2 V c).arrAt_eq_of_cover 2 (productArr (V c main_v1_2) (V c main_v2)) (fun t _ => flushed2_2 V c t) covered2_2

end Cert.KernelIdeal.Quantise
-- ==== Proof.KernelRun.lean ====
/-
  The kernel's run over the extended reals: its three results as functions of its three arguments.
-/
module

public import proofs.«01_k».proof.Proof.KernelValue
public import Idealize.ShloMosaic.Lib.StableHlo.ReadAt

@[expose] public section

set_option synthInstance.maxSize 4096

noncomputable section

namespace Cert.KernelIdeal.Quantise

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Row `(a, b)` of an activation gradient. -/
def row (x : S8x4096x9216.Idx → EReal) (a : Fin 8) (b : Fin 4096) : Fin 9216 → EReal := fun k => x (ix3 a b k)

/-- The flattened place of row `(a, b)`. -/
def flat (a : Fin 8) (b : Fin 4096) : Fin 32768 := ⟨a.val * 4096 + b.val, by omega⟩

theorem W1_main_v0 (c : Dev nD) (a : Fin 8) (b : Fin 4096) (k : Fin 9216) :
    W1 m ρ c (Proc.devRef .tc main_v0) (ix2 (flat a b) k) = m ((c : Thread nD τ).loc main_arg0) (ix3 a b k) := by
  unfold W1 hostOps0
  after_reads_at
  show m ((c : Thread nD τ).loc main_arg0) _ = _
  have ha : (⟨(flat a b).val / 4096, by have := (flat a b).isLt; omega⟩ : Fin 8) = a :=
    Fin.ext (show (a.val * 4096 + b.val) / 4096 = a.val by omega)
  have hb : (⟨(flat a b).val % 4096, Nat.mod_lt _ (by omega)⟩ : Fin 4096) = b :=
    Fin.ext (show (a.val * 4096 + b.val) % 4096 = b.val by omega)
  exact congrArg₂ (fun a b => m ((c : Thread nD τ).loc main_arg0) (ix3 a b k)) ha hb

theorem W5_main_v5 (c : Dev nD) (a : Fin 8) (b : Fin 4096) (k : Fin 9216) :
    W5 m ρ c (Proc.devRef .tc main_v5) (ix3 a b k) = W4 m ρ c (Proc.devRef .tc main_v1_0) (ix2 (flat a b) k) := by
  unfold W5 hostOps3
  after_reads_at
  rfl

theorem W5_main_v6 (c : Dev nD) (a : Fin 8) (b : Fin 4096) (k : Fin 72) :
    W5 m ρ c (Proc.devRef .tc main_v6) (ix3 a b k) = W4 m ρ c (Proc.devRef .tc main_v1_1) (ix2 (flat a b) k) := by
  unfold W5 hostOps3
  after_reads_at
  rfl

theorem W5_main_v4 (c : Dev nD) (a : Fin 8) (b : Fin 4096) (k : Fin 7168) :
    W5 m ρ c (Proc.devRef .tc main_v4) (ix3 a b k) = W4 m ρ c (Proc.devRef .tc main_v3) (ix2 (flat a b) k) := by
  unfold W5 hostOps3
  after_reads_at
  rfl

theorem W4_v1_0 (c : Dev nD) : W4 m ρ c (Proc.devRef .tc main_v1_0) = codesArr (W1 m ρ c (Proc.devRef .tc main_v0)) :=
  (W4_of m ρ c main_v1_0 (by decide +kernel)).trans ((W3_of m ρ c main_v1_0 (by decide +kernel)).trans
    ((W2_arr m ρ c 1).trans (final0_1 (V1 m ρ) c)))

theorem W4_v1_1 (c : Dev nD) : W4 m ρ c (Proc.devRef .tc main_v1_1) = scalesArr (W1 m ρ c (Proc.devRef .tc main_v0)) :=
  (W4_of m ρ c main_v1_1 (by decide +kernel)).trans ((W3_of m ρ c main_v1_1 (by decide +kernel)).trans
    ((W2_arr m ρ c 2).trans (final0_2 (V1 m ρ) c)))

theorem W3_v1_2 (c : Dev nD) : W3 m ρ c (Proc.devRef .tc main_v1_2) = backArr (W1 m ρ c (Proc.devRef .tc main_v0)) :=
  (W3_of m ρ c main_v1_2 (by decide +kernel)).trans ((W2_arr m ρ c 3).trans (final0_3 (V1 m ρ) c))

theorem W3_v2 (c : Dev nD) : W3 m ρ c (Proc.devRef .tc main_v2)
    = weightArr (m ((c : Thread nD τ).loc main_arg1)) (m ((c : Thread nD τ).loc main_arg2)) := by
  refine (W3_arr m ρ c 2).trans ((final1_2 (V2 m ρ) c).trans ?_)
  have e1 : V2 m ρ c main_arg1 = m ((c : Thread nD τ).loc main_arg1) := W2_args m ρ c main_arg1 (by decide)
  have e2 : V2 m ρ c main_arg2 = m ((c : Thread nD τ).loc main_arg2) := W2_args m ρ c main_arg2 (by decide)
  rw [e1, e2]

theorem W4_v3 (c : Dev nD) : W4 m ρ c (Proc.devRef .tc main_v3)
    = productArr (backArr (W1 m ρ c (Proc.devRef .tc main_v0)))
        (weightArr (m ((c : Thread nD τ).loc main_arg1)) (m ((c : Thread nD τ).loc main_arg2))) := by
  refine (W4_arr m ρ c 2).trans ((final2_2 (V3 m ρ) c).trans ?_)
  have e1 : V3 m ρ c main_v1_2 = _ := W3_v1_2 m ρ c
  have e2 : V3 m ρ c main_v2 = _ := W3_v2 m ρ c
  rw [e1, e2]

theorem row_W1 (c : Dev nD) (a : Fin 8) (b : Fin 4096) :
    rowOf (n := 32768) (W1 m ρ c (Proc.devRef .tc main_v0)) (flat a b) = row (m ((c : Thread nD τ).loc main_arg0)) a b :=
  funext fun k => W1_main_v0 m ρ c a b k

/-! ## The three results -/

/-- The codes, of `dy`. -/
def codesOf (x : S8x4096x9216.Idx → EReal) : S8x4096x9216.Idx → EReal := fun i => Scale.codeAt (row x (i 0) (i 1)) (i 2)

/-- The scales, of `dy`. -/
def scalesOf (x : S8x4096x9216.Idx → EReal) : S8x4096x72.Idx → EReal := fun i => Scale.scaleAt (row x (i 0) (i 1)) (i 2)

/-- The product of the dequantised `dy` and the dequantised weight. -/
def dxOf (x : S8x4096x9216.Idx → EReal) (w : S7168x9216.Idx → EReal) (s : S7168x72.Idx → EReal) : S8x4096x7168.Idx → EReal :=
  fun i => ∑ k : Fin 9216, Scale.backAt (row x (i 0) (i 1)) k * (w (ix2 (i 2) k) * s (ix2 (i 2) (Scale.groupOf k)))

/-- An element of the product of the dequantised blocks, in the row of `dy` it comes from. -/
theorem product_at (x : S32768x9216.Idx → EReal) (w : S7168x9216.Idx → EReal) (s : S7168x72.Idx → EReal) (r : Fin 32768) (n : Fin 7168)
    (u : Fin 9216 → EReal) (h : rowOf x r = u) : productArr (backArr x) (weightArr w s) (ix2 r n)
      = ∑ k : Fin 9216, Scale.backAt u k * (w (ix2 n k) * s (ix2 n (Scale.groupOf k))) := by
  subst h
  rfl

theorem W5_codes (c : Dev nD) : W5 m ρ c (Proc.devRef .tc main_v5) = codesOf (m ((c : Thread nD τ).loc main_arg0)) := by
  funext i
  have hi : i = ix3 (i 0) (i 1) (i 2) := eq_ix3 i
  rw [hi]
  refine (W5_main_v5 m ρ c (i 0) (i 1) (i 2)).trans ((congrFun (W4_v1_0 m ρ c) _).trans ?_)
  exact congrArg (fun u => Scale.codeAt u (i 2)) (row_W1 m ρ c (i 0) (i 1))

theorem W5_scales (c : Dev nD) : W5 m ρ c (Proc.devRef .tc main_v6) = scalesOf (m ((c : Thread nD τ).loc main_arg0)) := by
  funext i
  have hi : i = ix3 (i 0) (i 1) (i 2) := eq_ix3 i
  rw [hi]
  refine (W5_main_v6 m ρ c (i 0) (i 1) (i 2)).trans ((congrFun (W4_v1_1 m ρ c) _).trans ?_)
  exact congrArg (fun u => Scale.scaleAt u (i 2)) (row_W1 m ρ c (i 0) (i 1))

theorem W5_dx (c : Dev nD) : W5 m ρ c (Proc.devRef .tc main_v4)
    = dxOf (m ((c : Thread nD τ).loc main_arg0)) (m ((c : Thread nD τ).loc main_arg1)) (m ((c : Thread nD τ).loc main_arg2)) := by
  funext i
  have hi : i = ix3 (i 0) (i 1) (i 2) := eq_ix3 i
  rw [hi]
  refine (W5_main_v4 m ρ c (i 0) (i 1) (i 2)).trans ((congrFun (W4_v3 m ρ c) _).trans ?_)
  exact product_at _ _ _ _ _ _ (row_W1 m ρ c (i 0) (i 1))

-- `θ_run_regions_kit_sems`'s implicit arguments are found by unifying its conclusion with this one, which takes unfolding
-- plain definitions in a metavariable's type
set_option backward.isDefEq.respectTransparency.types false in
/-- Every weakly fair run of the kernel ends with its three results these functions of its arguments, which end as launched. -/
theorem run : θ_run defs (onTc (τ := τ) (main (F := Ideal))) ⟨m, fun _ => 0, ρ⟩ (fun r => ∀ c : Dev nD,
      r.2.mem ((c.tc : Thread nD τ).loc main_v4)
          = dxOf (m ((c : Thread nD τ).loc main_arg0)) (m ((c : Thread nD τ).loc main_arg1)) (m ((c : Thread nD τ).loc main_arg2))
      ∧ r.2.mem ((c.tc : Thread nD τ).loc main_v5) = codesOf (m ((c : Thread nD τ).loc main_arg0))
      ∧ r.2.mem ((c.tc : Thread nD τ).loc main_v6) = scalesOf (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v4 (by decide))).trans (W5_dx m ρ c), (h c _ (mem_uc main_v5 (by decide))).trans (W5_codes m ρ c),
       (h c _ (mem_uc main_v6 (by decide))).trans (W5_scales m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Quantise
-- ==== Proof.ReferenceBlock.lean ====
/-
  The reference's body read at an index: each of its four results as a function of one row of `dy`, in the vocabulary of
  `Scale`, and the precondition in the same vocabulary.
-/
module

public import proofs.«01_k».proof.Proof.Gen.ReferenceIdeal.Frame
public import proofs.«01_k».proof.Proof.Gen.Pre_in_range
public import proofs.«01_k».proof.Proof.Scale

@[expose] public section

set_option synthInstance.maxSize 4096

noncomputable section

namespace Cert.ReferenceIdeal.Quantise

open Idealize.ShloMosaic Idealize.SL.Sem
open Cert.ReferenceIdeal Cert.ReferenceIdeal.Gen

/-- Row `(a, b)` of an activation gradient. -/
def row (v : S8x4096x9216.Idx → EReal) (a : Fin 8) (b : Fin 4096) : Fin 9216 → EReal := fun c => v (ix3 a b c)

/-- The largest magnitude in each group of 128, of the grouped array `x`. -/
def peak (x : FVec Ideal S8x4096x72x128 .f32) : FVec Ideal S8x4096x72 .f32 :=
  multiReduction .maximumf [3] S8x4096x72 (absf x) 0xFF800000#32 reduces_S8x4096x72x128_S8x4096x72 (.inl rfl) rfl

theorem lift_eq (h : S8x4096x72x128.Reduces [3] S8x4096x72) (a : Fin 8) (b : Fin 4096) (g : Fin 72) (l : Fin 128) :
    h.lift (ix3 a b g) l = ix4 a b g l := by
  funext c
  apply Fin.ext
  match c with
  | 0 => rfl
  | 1 => rfl
  | 2 => rfl
  | 3 => rfl

/-- The largest magnitude, at one group: the fold of `max` over its 128 lanes. -/
theorem peak_apply (x : FVec Ideal S8x4096x72x128 .f32) (a : Fin 8) (b : Fin 4096) (g : Fin 72) :
    peak x (ix3 a b g)
      = (Finset.univ : Finset (Fin 128)).fold max (Ideal.ofBits .f32 0xFF800000#32)
          (fun l => FloatOps.absf (F := Ideal) (φ := .f32) (x (ix4 a b g l))) := by
  unfold peak
  refine (Ideal.multiReduction_maximumf_single (a := 3) (absf x) _ _ _ rfl _).trans ?_
  congr 1
  funext l
  exact congrArg (absf x) (lift_eq _ a b g l)

/-- The exponent `floor(log a / ln 2) + 1` of each group's scale, zero for an all-zero group. -/
def expo (m : FVec Ideal S8x4096x72 .f32) : FVec Ideal S8x4096x72 .f32 :=
  select (cmpf .oeq m (broadcast S8x4096x72 (Scalar.ofBits .f32 0x00000000#32)))
    (broadcast S8x4096x72 (Scalar.ofBits .f32 0x00000000#32))
    (addf (floor (divf (log (mulf m (broadcast S8x4096x72 (Scalar.ofBits .f32 0x3B124925#32))))
      (broadcast S8x4096x72 (Named.named κ "ln2" 0x3F317218#32))))
      (broadcast S8x4096x72 (Scalar.ofBits .f32 0x3F800000#32)))

theorem k0_pay3_eq (v : Vec Ideal S8x4096x9216 .bf16) : k0_pay3 (F := Ideal) v = expo (peak (k0_pay2 v)) := by
  unfold k0_pay3 expo peak; rfl

theorem expo_apply (m : FVec Ideal S8x4096x72 .f32) (a : Fin 8) (b : Fin 4096) (g : Fin 72) :
    expo m (ix3 a b g) = Scale.expo (m (ix3 a b g)) := by
  pointwise [expo]
  rfl

theorem k0_pay2_apply (v : Vec Ideal S8x4096x9216 .bf16) (a : Fin 8) (b : Fin 4096) (g : Fin 72) (l : Fin 128) :
    k0_pay2 (F := Ideal) v (ix4 a b g l) = row v a b (Scale.lane g l) := by
  pointwise [k0_pay2]
  rfl

theorem peak_row (v : Vec Ideal S8x4096x9216 .bf16) (a : Fin 8) (b : Fin 4096) (g : Fin 72) :
    peak (k0_pay2 v) (ix3 a b g) = Scale.peak (row v a b) g := by
  rw [peak_apply]
  unfold Scale.peak
  congr 1
  funext l
  rw [k0_pay2_apply]

/-- The exponent of a group. -/
theorem k0_pay3_apply (v : Vec Ideal S8x4096x9216 .bf16) (a : Fin 8) (b : Fin 4096) (g : Fin 72) :
    k0_pay3 (F := Ideal) v (ix3 a b g) = Scale.expo (Scale.peak (row v a b) g) := by
  rw [k0_pay3_eq, expo_apply, peak_row]

theorem exp2_at {s : Shape} (e : FVec Ideal s .f32) (i : s.Idx) : exp2 e i = Ideal.exp2 (e i) := rfl

/-- The scale of a group. -/
theorem k0_pay4_apply (v : Vec Ideal S8x4096x9216 .bf16) (a : Fin 8) (b : Fin 4096) (g : Fin 72) :
    k0_pay4 (F := Ideal) v (ix3 a b g) = Ideal.exp2 (Scale.expo (Scale.peak (row v a b) g)) := by
  unfold k0_pay4
  rw [exp2_at, k0_pay3_apply]

/-- The codes, of the grouped array and its groups' exponents. -/
def code (x : FVec Ideal S8x4096x72x128 .f32) (e : FVec Ideal S8x4096x72 .f32) : FVec Ideal S8x4096x72x128 .fp8e4m3 :=
  truncf .fp8e4m3 (minimumf (broadcast S8x4096x72x128 (Scalar.ofBits .f32 0x43E00000#32))
    (maximumf (broadcast S8x4096x72x128 (Scalar.ofBits .f32 0xC3E00000#32))
      (mulf x (broadcastTo S8x4096x72x128 (shapeCast S8x4096x72x1
        (exp2 (subf (broadcast S8x4096x72 (Scalar.ofBits .f32 0x00000000#32)) e)) shapeCasts_S8x4096x72_S8x4096x72x1)
        broadcasts_S8x4096x72x1_S8x4096x72x128)))) bitsLt_fp8e4m3_f32

theorem k0_pay5_eq (v : Vec Ideal S8x4096x9216 .bf16) : k0_pay5 (F := Ideal) v = code (k0_pay2 v) (k0_pay3 v) := by
  unfold k0_pay5 code; rfl

theorem code_apply (x : FVec Ideal S8x4096x72x128 .f32) (e : FVec Ideal S8x4096x72 .f32) (a : Fin 8) (b : Fin 4096)
    (g : Fin 72) (l : Fin 128) :
    code x e (ix4 a b g l) = min (Ideal.ofBits .f32 0x43E00000#32) (max (Ideal.ofBits .f32 0xC3E00000#32)
      (x (ix4 a b g l) * Ideal.exp2 (0 - e (ix3 a b g)))) := by
  pointwise [code]
  rfl

theorem flat_apply (φ : FTy) (x : FVec Ideal S8x4096x72x128 φ) (a : Fin 8) (b : Fin 4096) (c : Fin 9216) :
    shapeCast S8x4096x9216 x shapeCasts_S8x4096x72x128_S8x4096x9216 (ix3 a b c)
      = x (ix4 a b (Scale.groupOf c) ⟨c.val % 128, Nat.mod_lt _ (by omega)⟩) := by
  pointwise
  rfl

/-- The codes' dequantisation, of the codes and the groups' scales. -/
def back (x : FVec Ideal S8x4096x72x128 .fp8e4m3) (s : FVec Ideal S8x4096x72 .f32) : FVec Ideal S8x4096x72x128 .bf16 :=
  mulf (extf .bf16 x bitsLt_fp8e4m3_bf16) (broadcastTo S8x4096x72x128 (shapeCast S8x4096x72x1
    (truncf .bf16 s bitsLt_bf16_f32) shapeCasts_S8x4096x72_S8x4096x72x1) broadcasts_S8x4096x72x1_S8x4096x72x128)

theorem back_apply (x : FVec Ideal S8x4096x72x128 .fp8e4m3) (s : FVec Ideal S8x4096x72 .f32) (a : Fin 8) (b : Fin 4096)
    (g : Fin 72) (l : Fin 128) : back x s (ix4 a b g l) = (x (ix4 a b g l) * s (ix3 a b g) : EReal) := by
  pointwise [back]

theorem k0_pay7_eq (v : Vec Ideal S8x4096x9216 .bf16) :
    k0_pay7 (F := Ideal) v = shapeCast S8x4096x9216 (back (k0_pay5 v) (k0_pay4 v)) shapeCasts_S8x4096x72x128_S8x4096x9216 := by
  unfold k0_pay7 back; rfl

/-- The code of a column, by the logarithm. -/
def codeOf (r : Fin 9216 → EReal) (c : Fin 9216) : EReal :=
  min (Ideal.ofBits .f32 0x43E00000#32) (max (Ideal.ofBits .f32 0xC3E00000#32)
    (r c * Ideal.exp2 (0 - Scale.expo (Scale.peak r (Scale.groupOf c)))))

theorem lane_groupOf (c : Fin 9216) : Scale.lane (Scale.groupOf c) ⟨c.val % 128, Nat.mod_lt _ (by omega)⟩ = c :=
  Fin.ext (show c.val / 128 * 128 + c.val % 128 = c.val by omega)

theorem k0_pay5_flat (v : Vec Ideal S8x4096x9216 .bf16) (a : Fin 8) (b : Fin 4096) (c : Fin 9216) :
    k0_pay5 (F := Ideal) v (ix4 a b (Scale.groupOf c) ⟨c.val % 128, Nat.mod_lt _ (by omega)⟩) = codeOf (row v a b) c := by
  rw [k0_pay5_eq, code_apply, k0_pay2_apply, k0_pay3_apply, lane_groupOf, codeOf]

theorem k0_pay6_apply (v : Vec Ideal S8x4096x9216 .bf16) (a : Fin 8) (b : Fin 4096) (c : Fin 9216) :
    k0_pay6 (F := Ideal) v (ix3 a b c) = codeOf (row v a b) c := by
  unfold k0_pay6
  rw [flat_apply, k0_pay5_flat]

theorem k0_pay7_apply (v : Vec Ideal S8x4096x9216 .bf16) (a : Fin 8) (b : Fin 4096) (c : Fin 9216) :
    k0_pay7 (F := Ideal) v (ix3 a b c)
      = codeOf (row v a b) c * Ideal.exp2 (Scale.expo (Scale.peak (row v a b) (Scale.groupOf c))) := by
  rw [k0_pay7_eq, flat_apply, back_apply, k0_pay5_flat, k0_pay4_apply]

/-- The dequantised weight. -/
theorem k0_pay1_apply (w : Vec Ideal S7168x9216 .fp8e4m3) (s : Vec Ideal S7168x72 .f32) (n : Fin 7168) (c : Fin 9216) :
    k0_pay1 (F := Ideal) w s (ix2 n c) = (w (ix2 n c) * s (ix2 n (Scale.groupOf c)) : EReal) := by
  pointwise [k0_pay1]
  rfl

end Cert.ReferenceIdeal.Quantise
-- ==== Proof.ReferenceRun.lean ====
/-
  The reference's run over the extended reals: its three results as functions of its three arguments.
-/
module

public import proofs.«01_k».proof.Proof.ReferenceBlock
public import Idealize.ShloMosaic.Lib.Pipeline.Value
public import Idealize.ShloMosaic.Lib.StableHlo.ReadAt

@[expose] public section

set_option synthInstance.maxSize 4096

noncomputable section

namespace Cert.ReferenceIdeal.Quantise

open Idealize.ShloMosaic Idealize.ShloMosaic.TcCoe Idealize.SL.Sem Idealize.SL
open Idealize.ShloMosaic.Pipeline (Dat)
open Cert.ReferenceIdeal Cert.ReferenceIdeal.Gen

variable (m : (ℓ : Loc nD τ sig) → Buf (Elt Ideal) ℓ) (ρ : Dev nD → PrngReg)

/-! ## The four arrays the kernel leaves -/

/-- The codes, of `dy`. -/
def codesOf (x : S8x4096x9216.Idx → EReal) : S8x4096x9216.Idx → EReal := fun i => codeOf (row x (i 0) (i 1)) (i 2)

/-- The scales, of `dy`. -/
def scalesOf (x : S8x4096x9216.Idx → EReal) : S8x4096x72.Idx → EReal :=
  fun i => Ideal.exp2 (Scale.expo (Scale.peak (row x (i 0) (i 1)) (i 2)))

/-- Element `c` of a row, quantised and dequantised. -/
def backOf (r : Fin 9216 → EReal) (c : Fin 9216) : EReal := codeOf r c * Ideal.exp2 (Scale.expo (Scale.peak r (Scale.groupOf c)))

/-- The dequantised `dy`. -/
def backArr (x : S8x4096x9216.Idx → EReal) : S8x4096x9216.Idx → EReal := fun i => backOf (row x (i 0) (i 1)) (i 2)

/-- The dequantised weight. -/
def weightArr (w : S7168x9216.Idx → EReal) (s : S7168x72.Idx → EReal) : S7168x9216.Idx → EReal :=
  fun i => w (ix2 (i 0) (i 1)) * s (ix2 (i 0) (Scale.groupOf (i 1)))

theorem hz2 : (![0, 0] : Fin 2 → Nat) = fun _ => 0 := funext fun a => by fin_cases a <;> rfl
theorem hz3 : (![0, 0, 0] : Fin 3 → Nat) = fun _ => 0 := funext fun a => by fin_cases a <;> rfl

/-- Every window's one block starts at the origin of its array. -/
theorem index0 : ∀ t : Fin cfg0.N,
    (win0_0.index t 0 = 0 ∧ win0_0.index t 1 = 0 ∧ win0_0.index t 2 = 0)
    ∧ (win0_1.index t 0 = 0 ∧ win0_1.index t 1 = 0)
    ∧ (win0_2.index t 0 = 0 ∧ win0_2.index t 1 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0) := by decide +kernel

/-- A window's block is its whole array: reading an array through the block reads the array. -/
theorem emb0_0 (t : Fin cfg0.N) (a : Fin 8) (b : Fin 4096) (c : Fin 9216) (G : S8x4096x9216.Idx → EReal) :
    ((cfg0.win 0).blk t).view.read (Elt Ideal) G (ix3 a b c) = G (ix3 a b c) := by
  refine congrArg G (funext (Fin.forall_fin_succ.mpr ⟨Fin.ext ?_, Fin.forall_fin_two.mpr ⟨Fin.ext ?_, Fin.ext ?_⟩⟩))
  · show win0_0.index t 0 * 8 + 1 * a.val = a.val
    rw [(index0 t).1.1]; omega
  · show win0_0.index t 1 * 4096 + 1 * b.val = b.val
    rw [(index0 t).1.2.1]; omega
  · show win0_0.index t 2 * 9216 + 1 * c.val = c.val
    rw [(index0 t).1.2.2]; omega

theorem emb0_1 (t : Fin cfg0.N) (n : Fin 7168) (c : Fin 9216) (G : S7168x9216.Idx → EReal) :
    ((cfg0.win 1).blk t).view.read (Elt Ideal) G (ix2 n c) = G (ix2 n c) := by
  refine congrArg G (funext (Fin.forall_fin_two.mpr ⟨Fin.ext ?_, Fin.ext ?_⟩))
  · show win0_1.index t 0 * 7168 + 1 * n.val = n.val
    rw [(index0 t).2.1.1]; omega
  · show win0_1.index t 1 * 9216 + 1 * c.val = c.val
    rw [(index0 t).2.1.2]; omega

theorem emb0_2 (t : Fin cfg0.N) (n : Fin 7168) (c : Fin 72) (G : S7168x72.Idx → EReal) :
    ((cfg0.win 2).blk t).view.read (Elt Ideal) G (ix2 n c) = G (ix2 n c) := by
  refine congrArg G (funext (Fin.forall_fin_two.mpr ⟨Fin.ext ?_, Fin.ext ?_⟩))
  · show win0_2.index t 0 * 7168 + 1 * n.val = n.val
    rw [(index0 t).2.2.1.1]; omega
  · show win0_2.index t 1 * 72 + 1 * c.val = c.val
    rw [(index0 t).2.2.1.2]; omega

theorem emb0_3 (t : Fin cfg0.N) (a : Fin 8) (b : Fin 4096) (c : Fin 9216) (G : S8x4096x9216.Idx → EReal) :
    ((cfg0.win 3).blk t).view.read (Elt Ideal) G (ix3 a b c) = G (ix3 a b c) := by
  refine congrArg G (funext (Fin.forall_fin_succ.mpr ⟨Fin.ext ?_, Fin.forall_fin_two.mpr ⟨Fin.ext ?_, Fin.ext ?_⟩⟩))
  · show win0_3.index t 0 * 8 + 1 * a.val = a.val
    rw [(index0 t).2.2.2.1.1]; omega
  · show win0_3.index t 1 * 4096 + 1 * b.val = b.val
    rw [(index0 t).2.2.2.1.2.1]; omega
  · show win0_3.index t 2 * 9216 + 1 * c.val = c.val
    rw [(index0 t).2.2.2.1.2.2]; omega

theorem emb0_4 (t : Fin cfg0.N) (a : Fin 8) (b : Fin 4096) (c : Fin 72) (G : S8x4096x72.Idx → EReal) :
    ((cfg0.win 4).blk t).view.read (Elt Ideal) G (ix3 a b c) = G (ix3 a b c) := by
  refine congrArg G (funext (Fin.forall_fin_succ.mpr ⟨Fin.ext ?_, Fin.forall_fin_two.mpr ⟨Fin.ext ?_, Fin.ext ?_⟩⟩))
  · show win0_4.index t 0 * 8 + 1 * a.val = a.val
    rw [(index0 t).2.2.2.2.1.1]; omega
  · show win0_4.index t 1 * 4096 + 1 * b.val = b.val
    rw [(index0 t).2.2.2.2.1.2.1]; omega
  · show win0_4.index t 2 * 72 + 1 * c.val = c.val
    rw [(index0 t).2.2.2.2.1.2.2]; omega

theorem emb0_5 (t : Fin cfg0.N) (a : Fin 8) (b : Fin 4096) (c : Fin 9216) (G : S8x4096x9216.Idx → EReal) :
    ((cfg0.win 5).blk t).view.read (Elt Ideal) G (ix3 a b c) = G (ix3 a b c) := by
  refine congrArg G (funext (Fin.forall_fin_succ.mpr ⟨Fin.ext ?_, Fin.forall_fin_two.mpr ⟨Fin.ext ?_, Fin.ext ?_⟩⟩))
  · show win0_5.index t 0 * 8 + 1 * a.val = a.val
    rw [(index0 t).2.2.2.2.2.1.1]; omega
  · show win0_5.index t 1 * 4096 + 1 * b.val = b.val
    rw [(index0 t).2.2.2.2.2.1.2.1]; omega
  · show win0_5.index t 2 * 9216 + 1 * c.val = c.val
    rw [(index0 t).2.2.2.2.2.1.2.2]; omega

theorem emb0_6 (t : Fin cfg0.N) (n : Fin 7168) (c : Fin 9216) (G : S7168x9216.Idx → EReal) :
    ((cfg0.win 6).blk t).view.read (Elt Ideal) G (ix2 n c) = G (ix2 n c) := by
  refine congrArg G (funext (Fin.forall_fin_two.mpr ⟨Fin.ext ?_, Fin.ext ?_⟩))
  · show win0_6.index t 0 * 7168 + 1 * n.val = n.val
    rw [(index0 t).2.2.2.2.2.2.1]; omega
  · show win0_6.index t 1 * 9216 + 1 * c.val = c.val
    rw [(index0 t).2.2.2.2.2.2.2]; omega

theorem iblk_0 (c' : Dev nD) (t : Fin cfg0.N) (a : Fin 8) (b : Fin 4096) (c : Fin 9216) :
    iblk m c' 0 t (ix3 a b c) = m ((c' : Thread nD τ).loc main_arg0) (ix3 a b c) := emb0_0 t a b c _

theorem iblk_1 (c' : Dev nD) (t : Fin cfg0.N) (n : Fin 7168) (c : Fin 9216) :
    iblk m c' 1 t (ix2 n c) = m ((c' : Thread nD τ).loc main_arg1) (ix2 n c) := emb0_1 t n c _

theorem iblk_2 (c' : Dev nD) (t : Fin cfg0.N) (n : Fin 7168) (c : Fin 72) :
    iblk m c' 2 t (ix2 n c) = m ((c' : Thread nD τ).loc main_arg2) (ix2 n c) := emb0_2 t n c _

theorem flushed0_3 (c : Dev nD) (t : Fin cfg0.N) :
    (dats m 0 c).flushed 3 t = ((cfg0.win 3).blk t).view.read (Elt Ideal) (codesOf (m ((c : Thread nD τ).loc main_arg0))) := by
  show (cfg0.win 3).cut (grid0.coords t) ((dats m 0 c).after 3 t) = _
  rw [after0_3]
  unfold out0_3
  rw [View.canon_unit_zero hz3, View.ld_unit_zero hz3]
  funext j
  have hj : j = ix3 (j 0) (j 1) (j 2) := eq_ix3 j
  rw [hj]
  refine Eq.trans ?_ (emb0_3 t (j 0) (j 1) (j 2) _).symm
  refine (k0_pay6_apply (iblk m c 0 t) (j 0) (j 1) (j 2)).trans ?_
  exact congrArg (fun u => codeOf u (j 2)) (funext fun k => iblk_0 m c t (j 0) (j 1) k)

theorem covered0_3 (i : S8x4096x9216.Idx) :
    ∃ t : Fin cfg0.N, (cfg0.win 3).flush t = true ∧ i ∈ ((cfg0.win 3).blk t).view.set := by
  have h0 : (i 0 : Nat) < 8 := (i 0).isLt
  have h1 : (i 1 : Nat) < 4096 := (i 1).isLt
  have h2 : (i 2 : Nat) < 9216 := (i 2).isLt
  refine ⟨t0_0, flush0_3 _, ?_⟩
  show i ∈ ((View.whole main_v0_0).slice (win0_3.rect t0_0)).set
  rw [View.set_slice_whole, Rect.mem_set_unit]
  refine Fin.forall_fin_succ.mpr ⟨?_, Fin.forall_fin_two.mpr ⟨?_, ?_⟩⟩
  · show win0_3.index t0_0 0 * 8 ≤ (i 0 : Nat) ∧ (i 0 : Nat) < win0_3.index t0_0 0 * 8 + 8
    rw [(index0 t0_0).2.2.2.1.1]; omega
  · show win0_3.index t0_0 1 * 4096 ≤ (i 1 : Nat) ∧ (i 1 : Nat) < win0_3.index t0_0 1 * 4096 + 4096
    rw [(index0 t0_0).2.2.2.1.2.1]; omega
  · show win0_3.index t0_0 2 * 9216 ≤ (i 2 : Nat) ∧ (i 2 : Nat) < win0_3.index t0_0 2 * 9216 + 9216
    rw [(index0 t0_0).2.2.2.1.2.2]; omega

/-- The kernel leaves the codes. -/
theorem final0_3 (c : Dev nD) : (dats m 0 c).arrAt 3 cfg0.N = codesOf (m ((c : Thread nD τ).loc main_arg0)) :=
  (dats m 0 c).arrAt_eq_of_cover 3 (codesOf (m ((c : Thread nD τ).loc main_arg0))) (fun t _ => flushed0_3 m c t) covered0_3

theorem flushed0_4 (c : Dev nD) (t : Fin cfg0.N) :
    (dats m 0 c).flushed 4 t = ((cfg0.win 4).blk t).view.read (Elt Ideal) (scalesOf (m ((c : Thread nD τ).loc main_arg0))) := by
  show (cfg0.win 4).cut (grid0.coords t) ((dats m 0 c).after 4 t) = _
  rw [after0_4]
  unfold out0_4
  rw [View.canon_unit_zero hz3, View.ld_unit_zero hz3]
  funext j
  have hj : j = ix3 (j 0) (j 1) (j 2) := eq_ix3 j
  rw [hj]
  refine Eq.trans ?_ (emb0_4 t (j 0) (j 1) (j 2) _).symm
  refine (k0_pay4_apply (iblk m c 0 t) (j 0) (j 1) (j 2)).trans ?_
  exact congrArg (fun u => Ideal.exp2 (Scale.expo (Scale.peak u (j 2)))) (funext fun k => iblk_0 m c t (j 0) (j 1) k)

theorem covered0_4 (i : S8x4096x72.Idx) :
    ∃ t : Fin cfg0.N, (cfg0.win 4).flush t = true ∧ i ∈ ((cfg0.win 4).blk t).view.set := by
  have h0 : (i 0 : Nat) < 8 := (i 0).isLt
  have h1 : (i 1 : Nat) < 4096 := (i 1).isLt
  have h2 : (i 2 : Nat) < 72 := (i 2).isLt
  refine ⟨t0_0, flush0_4 _, ?_⟩
  show i ∈ ((View.whole main_v0_1).slice (win0_4.rect t0_0)).set
  rw [View.set_slice_whole, Rect.mem_set_unit]
  refine Fin.forall_fin_succ.mpr ⟨?_, Fin.forall_fin_two.mpr ⟨?_, ?_⟩⟩
  · show win0_4.index t0_0 0 * 8 ≤ (i 0 : Nat) ∧ (i 0 : Nat) < win0_4.index t0_0 0 * 8 + 8
    rw [(index0 t0_0).2.2.2.2.1.1]; omega
  · show win0_4.index t0_0 1 * 4096 ≤ (i 1 : Nat) ∧ (i 1 : Nat) < win0_4.index t0_0 1 * 4096 + 4096
    rw [(index0 t0_0).2.2.2.2.1.2.1]; omega
  · show win0_4.index t0_0 2 * 72 ≤ (i 2 : Nat) ∧ (i 2 : Nat) < win0_4.index t0_0 2 * 72 + 72
    rw [(index0 t0_0).2.2.2.2.1.2.2]; omega

/-- The kernel leaves the scales. -/
theorem final0_4 (c : Dev nD) : (dats m 0 c).arrAt 4 cfg0.N = scalesOf (m ((c : Thread nD τ).loc main_arg0)) :=
  (dats m 0 c).arrAt_eq_of_cover 4 (scalesOf (m ((c : Thread nD τ).loc main_arg0))) (fun t _ => flushed0_4 m c t) covered0_4

theorem flushed0_5 (c : Dev nD) (t : Fin cfg0.N) :
    (dats m 0 c).flushed 5 t = ((cfg0.win 5).blk t).view.read (Elt Ideal) (backArr (m ((c : Thread nD τ).loc main_arg0))) := by
  show (cfg0.win 5).cut (grid0.coords t) ((dats m 0 c).after 5 t) = _
  rw [after0_5]
  unfold out0_5
  rw [View.canon_unit_zero hz3, View.ld_unit_zero hz3]
  funext j
  have hj : j = ix3 (j 0) (j 1) (j 2) := eq_ix3 j
  rw [hj]
  refine Eq.trans ?_ (emb0_5 t (j 0) (j 1) (j 2) _).symm
  refine (k0_pay7_apply (iblk m c 0 t) (j 0) (j 1) (j 2)).trans ?_
  exact congrArg (fun u => backOf u (j 2)) (funext fun k => iblk_0 m c t (j 0) (j 1) k)

theorem covered0_5 (i : S8x4096x9216.Idx) :
    ∃ t : Fin cfg0.N, (cfg0.win 5).flush t = true ∧ i ∈ ((cfg0.win 5).blk t).view.set := by
  have h0 : (i 0 : Nat) < 8 := (i 0).isLt
  have h1 : (i 1 : Nat) < 4096 := (i 1).isLt
  have h2 : (i 2 : Nat) < 9216 := (i 2).isLt
  refine ⟨t0_0, flush0_5 _, ?_⟩
  show i ∈ ((View.whole main_v0_2).slice (win0_5.rect t0_0)).set
  rw [View.set_slice_whole, Rect.mem_set_unit]
  refine Fin.forall_fin_succ.mpr ⟨?_, Fin.forall_fin_two.mpr ⟨?_, ?_⟩⟩
  · show win0_5.index t0_0 0 * 8 ≤ (i 0 : Nat) ∧ (i 0 : Nat) < win0_5.index t0_0 0 * 8 + 8
    rw [(index0 t0_0).2.2.2.2.2.1.1]; omega
  · show win0_5.index t0_0 1 * 4096 ≤ (i 1 : Nat) ∧ (i 1 : Nat) < win0_5.index t0_0 1 * 4096 + 4096
    rw [(index0 t0_0).2.2.2.2.2.1.2.1]; omega
  · show win0_5.index t0_0 2 * 9216 ≤ (i 2 : Nat) ∧ (i 2 : Nat) < win0_5.index t0_0 2 * 9216 + 9216
    rw [(index0 t0_0).2.2.2.2.2.1.2.2]; omega

/-- The kernel leaves the dequantised `dy`. -/
theorem final0_5 (c : Dev nD) : (dats m 0 c).arrAt 5 cfg0.N = backArr (m ((c : Thread nD τ).loc main_arg0)) :=
  (dats m 0 c).arrAt_eq_of_cover 5 (backArr (m ((c : Thread nD τ).loc main_arg0))) (fun t _ => flushed0_5 m c t) covered0_5

theorem flushed0_6 (c : Dev nD) (t : Fin cfg0.N) :
    (dats m 0 c).flushed 6 t = ((cfg0.win 6).blk t).view.read (Elt Ideal) (weightArr (m ((c : Thread nD τ).loc main_arg1)) (m ((c : Thread nD τ).loc main_arg2))) := by
  show (cfg0.win 6).cut (grid0.coords t) ((dats m 0 c).after 6 t) = _
  rw [after0_6]
  unfold out0_6
  rw [View.canon_unit_zero hz2, View.ld_unit_zero hz2, View.ld_unit_zero hz2]
  funext j
  have hj : j = ix2 (j 0) (j 1) := eq_ix2 j
  rw [hj]
  refine Eq.trans ?_ (emb0_6 t (j 0) (j 1) _).symm
  refine (k0_pay1_apply (iblk m c 1 t) (iblk m c 2 t) (j 0) (j 1)).trans ?_
  exact congrArg₂ (fun u v : EReal => u * v) (iblk_1 m c t (j 0) (j 1)) (iblk_2 m c t (j 0) (Scale.groupOf (j 1)))

theorem covered0_6 (i : S7168x9216.Idx) :
    ∃ t : Fin cfg0.N, (cfg0.win 6).flush t = true ∧ i ∈ ((cfg0.win 6).blk t).view.set := by
  have h0 : (i 0 : Nat) < 7168 := (i 0).isLt
  have h1 : (i 1 : Nat) < 9216 := (i 1).isLt
  refine ⟨t0_0, flush0_6 _, ?_⟩
  show i ∈ ((View.whole main_v0_3).slice (win0_6.rect t0_0)).set
  rw [View.set_slice_whole, Rect.mem_set_unit]
  refine Fin.forall_fin_two.mpr ⟨?_, ?_⟩
  · show win0_6.index t0_0 0 * 7168 ≤ (i 0 : Nat) ∧ (i 0 : Nat) < win0_6.index t0_0 0 * 7168 + 7168
    rw [(index0 t0_0).2.2.2.2.2.2.1]; omega
  · show win0_6.index t0_0 1 * 9216 ≤ (i 1 : Nat) ∧ (i 1 : Nat) < win0_6.index t0_0 1 * 9216 + 9216
    rw [(index0 t0_0).2.2.2.2.2.2.2]; omega

/-- The kernel leaves the dequantised weight. -/
theorem final0_6 (c : Dev nD) : (dats m 0 c).arrAt 6 cfg0.N = weightArr (m ((c : Thread nD τ).loc main_arg1)) (m ((c : Thread nD τ).loc main_arg2)) :=
  (dats m 0 c).arrAt_eq_of_cover 6 (weightArr (m ((c : Thread nD τ).loc main_arg1)) (m ((c : Thread nD τ).loc main_arg2))) (fun t _ => flushed0_6 m c t) covered0_6

/-! ## The host's product -/

/-- The contents the host's lines start from: the kernel's arrays as it leaves them. -/
abbrev left (c : Dev nD) : Valuation τ sig (Elt Ideal) :=
  Pipeline.withArrays spec0 c (V0 m c) fun w => (dats m 0 c).arrAt w cfg0.N

theorem left_5 (c : Dev nD) : left m c (Proc.devRef .tc main_v0_2) = backArr (m ((c : Thread nD τ).loc main_arg0)) :=
  (Pipeline.withArrays_arr spec0 launch0.win.arr_inj c (V0 m c) _ 5).trans (final0_5 m c)

theorem left_6 (c : Dev nD) : left m c (Proc.devRef .tc main_v0_3)
    = weightArr (m ((c : Thread nD τ).loc main_arg1)) (m ((c : Thread nD τ).loc main_arg2)) :=
  (Pipeline.withArrays_arr spec0 launch0.win.arr_inj c (V0 m c) _ 6).trans (final0_6 m c)

/-- The product of two matrices, each row of the first against each row of the second. -/
def productArr (x : S8x4096x9216.Idx → EReal) (y : S7168x9216.Idx → EReal) : S8x4096x7168.Idx → EReal :=
  fun i => ∑ k : Fin 9216, x (ix3 (i 0) (i 1) k) * y (ix2 (i 2) k)

theorem dot_apply (x : FVec Ideal S8x4096x9216 .bf16) (y : FVec Ideal S7168x9216 .bf16) (a : Fin 8) (b : Fin 4096) (n : Fin 7168) :
    (truncf .bf16 (Host.dotGeneral (F := Ideal) dot_S8x4096x9216_S7168x9216_S8x4096x7168_2_1_01_0_n_n none x y) bitsLt_bf16_f32
      : FVec Ideal S8x4096x7168 .bf16) (ix3 a b n) = ∑ k : Fin 9216, (x (ix3 a b k) * y (ix2 n k) : EReal) := by
  pointwise []

theorem tail_v2 (U : Valuation τ sig (Elt Ideal)) :
    StableHlo.after hostOps1 U (Proc.devRef .tc main_v2)
      = productArr (U (Proc.devRef .tc main_v0_2)) (U (Proc.devRef .tc main_v0_3)) := by
  funext i
  have hi : i = ix3 (i 0) (i 1) (i 2) := eq_ix3 i
  rw [hi]
  refine Eq.trans ?_ (dot_apply (U (Proc.devRef .tc main_v0_2)) (U (Proc.devRef .tc main_v0_3)) (i 0) (i 1) (i 2))
  unfold hostOps1
  after_reads_at

/-- The product of the dequantised `dy` and the dequantised weight. -/
def dxOf (x : S8x4096x9216.Idx → EReal) (w : S7168x9216.Idx → EReal) (s : S7168x72.Idx → EReal) : S8x4096x7168.Idx → EReal :=
  fun i => ∑ k : Fin 9216, backOf (row x (i 0) (i 1)) k * (w (ix2 (i 2) k) * s (ix2 (i 2) (Scale.groupOf k)))

theorem final_v2 (c : Dev nD) : Pipeline.afterTail₀ cfgs (dats m) 0 (V0 m) [hostOps1] c main_v2
    = dxOf (m ((c : Thread nD τ).loc main_arg0)) (m ((c : Thread nD τ).loc main_arg1)) (m ((c : Thread nD τ).loc main_arg2)) :=
  (tail_v2 (left m c)).trans ((congrArg₂ productArr (left_5 m c) (left_6 m c)).trans rfl)

/-- Every weakly fair run of the reference ends with its three results these functions of its arguments, which end as
    launched. -/
theorem run : θ_run defs (onTc (τ := τ) (main (F := Ideal))) ⟨m, fun _ => 0, ρ⟩ (fun r => ∀ c : Dev nD,
      r.2.mem ((c.tc : Thread nD τ).loc main_v2)
          = dxOf (m ((c : Thread nD τ).loc main_arg0)) (m ((c : Thread nD τ).loc main_arg1)) (m ((c : Thread nD τ).loc main_arg2))
      ∧ r.2.mem ((c.tc : Thread nD τ).loc main_v0_0) = codesOf (m ((c : Thread nD τ).loc main_arg0))
      ∧ r.2.mem ((c.tc : Thread nD τ).loc main_v0_1) = scalesOf (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v2 (by decide)).trans (final_v2 m c),
      ((h c).1 3).trans (final0_3 m c), ((h c).1 4).trans (final0_4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.ReferenceIdeal.Quantise
-- ==== Proof.Range.lean ====
/-
  The precondition, one group at a time: every group's largest magnitude is one `Scale.Admits`.
-/
module

public import proofs.«01_k».proof.Proof.Gen.Pre_in_range
public import proofs.«01_k».proof.Proof.Scale

@[expose] public section

set_option synthInstance.maxSize 4096

noncomputable section

namespace Cert.Pre_in_range.Range

open Idealize.ShloMosaic Idealize.SL.Sem
open Cert.Pre_in_range Cert.Pre_in_range.Gen

theorem reduces : S8x4096x72x128.Reduces [3] S8x4096x72 := by decide

theorem lift_eq (h : S8x4096x72x128.Reduces [3] S8x4096x72) (a : Fin 8) (b : Fin 4096) (g : Fin 72) (l : Fin 128) :
    h.lift (ix3 a b g) l = ix4 a b g l := by
  funext c
  apply Fin.ext
  match c with
  | 0 => rfl
  | 1 => rfl
  | 2 => rfl
  | 3 => rfl

/-- The largest magnitude of each group, as the precondition takes it. -/
def peak (v : FVec Ideal S8x4096x9216 .bf16) : FVec Ideal S8x4096x72 .f32 :=
  Host.reduce FloatOps.maximumf
    (Host.absf (shapeCast S8x4096x72x128 (extf .f32 v Facts.bitsLt_bf16_f32) Facts.shapeCasts_S8x4096x9216_S8x4096x72x128))
    (constant S_ .f32 0xFF800000#32) Facts.reducesTo_S8x4096x72x128_S8x4096x72_d3 Facts.h_S_

theorem cast_apply (v : FVec Ideal S8x4096x9216 .bf16) (a : Fin 8) (b : Fin 4096) (g : Fin 72) (l : Fin 128) :
    Host.absf (F := Ideal) (shapeCast S8x4096x72x128 (extf .f32 v Facts.bitsLt_bf16_f32) Facts.shapeCasts_S8x4096x9216_S8x4096x72x128) (ix4 a b g l)
      = FloatOps.absf (F := Ideal) (φ := .f32) (v (ix3 a b (Scale.lane g l))) := by
  pointwise
  rfl

theorem peak_apply (v : FVec Ideal S8x4096x9216 .bf16) (a : Fin 8) (b : Fin 4096) (g : Fin 72) :
    peak v (ix3 a b g) = Scale.peak (fun c => v (ix3 a b c)) g := by
  unfold peak Scale.peak
  refine (Host.reduce_eq_fold_single (a := (3 : Fin S8x4096x72x128.rank)) (FloatOps.maximumf (F := Ideal) (φ := .f32)) _ _ _ reduces _ _).trans ?_
  refine congrArg (fun f => Finset.fold max (Ideal.ofBits .f32 0xFF800000#32) f Finset.univ) ?_
  funext l
  exact (congrArg _ (lift_eq reduces a b g l)).trans (cast_apply v a b g l)

/-- The test on the largest magnitudes. -/
def test (m : FVec Ideal S8x4096x72 .f32) : IVec S8x4096x72 1 :=
  ori (cmpf .oeq m (broadcastInDim S8x4096x72 ![] Facts.bcast_S_S8x4096x72 (constant S_ .f32 0x00000000#32)))
    (andi (cmpf .oge (mulf m (broadcastInDim S8x4096x72 ![] Facts.bcast_S_S8x4096x72 (constant S_ .f32 0x3B124925#32)))
        (broadcastInDim S8x4096x72 ![] Facts.bcast_S_S8x4096x72 (constant S_ .f32 0x00800000#32)))
      (cmpf .olt (mulf m (broadcastInDim S8x4096x72 ![] Facts.bcast_S_S8x4096x72 (constant S_ .f32 0x3B124925#32)))
        (broadcastInDim S8x4096x72 ![] Facts.bcast_S_S8x4096x72 (constant S_ .f32 0x7E800000#32))))

theorem fn_eq (v : FVec Ideal S8x4096x9216 .bf16) (w : FVec Ideal S7168x9216 .fp8e4m3) (s : FVec Ideal S7168x72 .f32) :
    Cert.Pre_in_range.fn v w s = test (peak v) := by
  unfold Cert.Pre_in_range.fn test peak; rfl

theorem ones : ∀ a b c : Bool, IntOp.ori (BitVec.ofBool a) (IntOp.andi (BitVec.ofBool b) (BitVec.ofBool c)) = 1#1
    → a = true ∨ (b = true ∧ c = true) := by
  decide

theorem test_apply (m : FVec Ideal S8x4096x72 .f32) (a : Fin 8) (b : Fin 4096) (g : Fin 72)
    (h : test m (ix3 a b g) = 1#1) : Scale.Admits (m (ix3 a b g)) := by
  pointwise [test] at h
  rcases ones _ _ _ h with h | h
  · exact Or.inl (of_decide_eq_true h)
  · exact Or.inr ⟨of_decide_eq_true h.1, of_decide_eq_true h.2⟩

/-- Under the precondition every group's largest magnitude is admitted. -/
theorem admits (v : FVec Ideal S8x4096x9216 .bf16) (w : FVec Ideal S7168x9216 .fp8e4m3) (s : FVec Ideal S7168x72 .f32)
    (h : Cert.Pre_in_range.fn v w s = fun _ => 1#1) (a : Fin 8) (b : Fin 4096) (g : Fin 72) :
    Scale.Admits (Scale.peak (fun c => v (ix3 a b c)) g) := by
  rw [← peak_apply]
  exact test_apply _ a b g (by rw [← fn_eq v w s, h])

end Cert.Pre_in_range.Range
-- ==== Proof.Equal.lean ====
/-
  The two programs compute the same three results wherever the precondition holds: the exponent read off a group's largest
  magnitude is the floor of its binary logarithm, so the scales, the codes and the dequantised elements agree.
-/
module

public import proofs.«01_k».proof.Proof.KernelRun
public import proofs.«01_k».proof.Proof.ReferenceRun
public import proofs.«01_k».proof.Proof.Range
public import proofs.«01_k».proof.Defs

@[expose] public section

set_option synthInstance.maxSize 4096

noncomputable section

namespace Cert.Equal

open Idealize.ShloMosaic Idealize.ShloMosaic.TcCoe Idealize.SL.Sem
open Cert.KernelIdeal (S8x4096x9216 S7168x9216 S7168x72)

/-- On a row all of whose groups are admitted, the kernel's scale is the reference's. -/
theorem scale_row (r : Fin 9216 → EReal) (h : ∀ g, Scale.Admits (Scale.peak r g)) (g : Fin 72) :
    Scale.scaleAt r g = Ideal.exp2 (Scale.expo (Scale.peak r g)) := Scale.scale_eq _ (h g)

/-- And its code the reference's. -/
theorem code_row (r : Fin 9216 → EReal) (h : ∀ g, Scale.Admits (Scale.peak r g)) (k : Fin 9216) :
    Scale.codeAt r k = ReferenceIdeal.Quantise.codeOf r k :=
  congrArg (fun u => min (Ideal.ofBits .f32 0x43E00000#32) (max (Ideal.ofBits .f32 0xC3E00000#32) (r k * u)))
    (Scale.inverse_eq _ (h (Scale.groupOf k)))

/-- And so its dequantised element. -/
theorem back_row (r : Fin 9216 → EReal) (h : ∀ g, Scale.Admits (Scale.peak r g)) (k : Fin 9216) :
    Scale.backAt r k = ReferenceIdeal.Quantise.backOf r k :=
  congrArg₂ (fun u v : EReal => u * v) (code_row r h k) (scale_row r h (Scale.groupOf k))

/-- Every group of every row of `dy` is admitted. -/
def Admitted (x : S8x4096x9216.Idx → EReal) : Prop := ∀ a b g, Scale.Admits (Scale.peak (fun k => x (ix3 a b k)) g)

theorem scales_eq (x : S8x4096x9216.Idx → EReal) (h : Admitted x) :
    ReferenceIdeal.Quantise.scalesOf x = KernelIdeal.Quantise.scalesOf x :=
  funext fun i => (scale_row _ (h (i 0) (i 1)) (i 2)).symm

theorem codes_eq (x : S8x4096x9216.Idx → EReal) (h : Admitted x) :
    ReferenceIdeal.Quantise.codesOf x = KernelIdeal.Quantise.codesOf x :=
  funext fun i => (code_row _ (h (i 0) (i 1)) (i 2)).symm

theorem dx_eq (x : S8x4096x9216.Idx → EReal) (w : S7168x9216.Idx → EReal) (s : S7168x72.Idx → EReal) (h : Admitted x) :
    ReferenceIdeal.Quantise.dxOf x w s = KernelIdeal.Quantise.dxOf x w s :=
  funext fun i => Finset.sum_congr rfl fun k _ =>
    congrArg (fun u : EReal => u * (w (ix2 (i 2) k) * s (ix2 (i 2) (Scale.groupOf k)))) (back_row _ (h (i 0) (i 1)) k).symm

/-- The kernel and the reference, from memories agreeing on the arguments and admitted by the precondition, end with equal
    results: `dx`, the codes and the scales, all three. -/
theorem algebraic : algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hag
  have hadm : ∀ c : Dev KernelIdeal.nD, Admitted (m ((c.tc : Thread KernelIdeal.nD KernelIdeal.τ).loc KernelIdeal.main_arg0)) :=
    fun c a b gr => Pre_in_range.Range.admits _ _ _ (hpre c) a b gr
  refine ⟨_, _, _, KernelIdeal.Quantise.run m g, (θ_run ReferenceIdeal.defs _ _).mono ?_ (ReferenceIdeal.Quantise.run m' g')⟩
  intro r h c
  obtain ⟨h0, h1, h2, k⟩ := h c
  obtain ⟨e0, e1, e2⟩ := hag c
  refine ⟨h0.trans ?_, h1.trans ?_, h2.trans ?_, k⟩
  · rw [e0, e1, e2]; exact dx_eq _ _ _ (hadm c)
  · rw [e0]; exact codes_eq _ (hadm c)
  · rw [e0]; exact scales_eq _ (hadm c)

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_in_range.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial, Cert.Equal.algebraic⟩

end Cert.Proof

end
